-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_xw_KernelIdeal [hPre_finite_xw_KernelIdeal : Cert.Pre_finite_xw_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_xw_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_xw_ReferenceIdeal [hPre_finite_xw_ReferenceIdeal : Cert.Pre_finite_xw_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_xw_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_xw_KernelIdeal [hKernelIdeal : Cert.KernelIdeal.Facts] [hPre_finite_xw_KernelIdeal : Cert.Pre_finite_xw_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_xw_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_xw_ReferenceIdeal [hReferenceIdeal : Cert.ReferenceIdeal.Facts] [hPre_finite_xw_ReferenceIdeal : Cert.Pre_finite_xw_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_xw_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_xw_KernelIdeal [hKernelIdeal : Cert.KernelIdeal.Facts] [hReferenceIdeal : Cert.ReferenceIdeal.Facts] [hPre_finite_xw_KernelIdeal : Cert.Pre_finite_xw_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_xw_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v56) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_xw_KernelIdeal : Cert.Pre_finite_xw_KernelIdeal.Facts) (hPre_finite_xw_ReferenceIdeal : Cert.Pre_finite_xw_ReferenceIdeal.Facts),
    quiescent_Kernel (hKernel := hKernel)
    ∧ quiescent_KernelIdeal (hKernelIdeal := hKernelIdeal)
    ∧ quiescent_KernelIdeal_pre_finite_xw_KernelIdeal (hKernelIdeal := hKernelIdeal) (hPre_finite_xw_KernelIdeal := hPre_finite_xw_KernelIdeal)
    ∧ quiescent_ReferenceIdeal (hReferenceIdeal := hReferenceIdeal)
    ∧ quiescent_ReferenceIdeal_pre_finite_xw_ReferenceIdeal (hReferenceIdeal := hReferenceIdeal) (hPre_finite_xw_ReferenceIdeal := hPre_finite_xw_ReferenceIdeal)
    ∧ preserves_Kernel_KernelIdeal
    ∧ algebraic_KernelIdeal_ReferenceIdeal_pre_finite_xw_KernelIdeal (hKernelIdeal := hKernelIdeal) (hReferenceIdeal := hReferenceIdeal) (hPre_finite_xw_KernelIdeal := hPre_finite_xw_KernelIdeal)
-- ==== Pre_finite_xw_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Pre_finite_xw_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x2048x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x2048x512 .bf16 := Host.absf main_arg0
  let main_cst : FVec F S_ .bf16 := constant S_ .bf16 0x7F80#16
  let main_v1 : FVec F S2x2048x512 .bf16 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S8x2x2x256x256 : Shape := ⟨5, ![8, 2, 2, 256, 256]⟩
abbrev S7 : Shape := ⟨1, ![7]⟩
abbrev S_ : Shape := ⟨0, ![]⟩
abbrev S1x256x4x64 : Shape := ⟨4, ![1, 256, 4, 64]⟩
abbrev S256x4x64 : Shape := ⟨3, ![256, 4, 64]⟩
abbrev S256x256 : Shape := ⟨2, ![256, 256]⟩
abbrev S1x1x1x256x256 : Shape := ⟨5, ![1, 1, 1, 256, 256]⟩
abbrev S1 : Shape := ⟨1, ![1]⟩
abbrev S1x2x2x256x256 : Shape := ⟨5, ![1, 2, 2, 256, 256]⟩
abbrev S2x2x256x256 : Shape := ⟨4, ![2, 2, 256, 256]⟩
abbrev S1x256x512 : Shape := ⟨3, ![1, 256, 512]⟩
abbrev S256x64 : Shape := ⟨2, ![256, 64]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S8x2x2x256x256, .i8⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v96 : BitVec 32 := Scalar.addi v2 c1_i32_74
  let c8_i32_75 : BitVec 32 := 8#32
  let v97 : BitVec 32 := Scalar.remsi v96 c8_i32_75
  let c1_i32_80 : BitVec 32 := 1#32
  let v98 : BitVec 32 := Scalar.muli v97 c1_i32_80
  let v99 : BitVec 32 := Scalar.addi c0_i32_81 v98
  v99.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_90 : BitVec 32 := 2#32
  let v108 : BitVec 32 := Scalar.addi v2 c2_i32_90
  let c8_i32_91 : BitVec 32 := 8#32
  let v109 : BitVec 32 := Scalar.remsi v108 c8_i32_91
  let c1_i32_96 : BitVec 32 := 1#32
  let v110 : BitVec 32 := Scalar.muli v109 c1_i32_96
  let v111 : BitVec 32 := Scalar.addi c0_i32_97 v110
  v111.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_106 : BitVec 32 := 3#32
  let v120 : BitVec 32 := Scalar.addi v2 c3_i32_106
  let c8_i32_107 : BitVec 32 := 8#32
  let v121 : BitVec 32 := Scalar.remsi v120 c8_i32_107
  let c1_i32_112 : BitVec 32 := 1#32
  let v122 : BitVec 32 := Scalar.muli v121 c1_i32_112
  let v123 : BitVec 32 := Scalar.addi c0_i32_113 v122
  v123.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v132 : BitVec 32 := Scalar.addi v2 c4_i32_122
  let c8_i32_123 : BitVec 32 := 8#32
  let v133 : BitVec 32 := Scalar.remsi v132 c8_i32_123
  let c1_i32_128 : BitVec 32 := 1#32
  let v134 : BitVec 32 := Scalar.muli v133 c1_i32_128
  let v135 : BitVec 32 := Scalar.addi c0_i32_129 v134
  v135.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_138 : BitVec 32 := 5#32
  let v144 : BitVec 32 := Scalar.addi v2 c5_i32_138
  let c8_i32_139 : BitVec 32 := 8#32
  let v145 : BitVec 32 := Scalar.remsi v144 c8_i32_139
  let c1_i32_144 : BitVec 32 := 1#32
  let v146 : BitVec 32 := Scalar.muli v145 c1_i32_144
  let v147 : BitVec 32 := Scalar.addi c0_i32_145 v146
  v147.toNat
def k0_dev13 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_154 : BitVec 32 := 6#32
  let v156 : BitVec 32 := Scalar.addi v2 c6_i32_154
  let c8_i32_155 : BitVec 32 := 8#32
  let v157 : BitVec 32 := Scalar.remsi v156 c8_i32_155
  let c1_i32_160 : BitVec 32 := 1#32
  let v158 : BitVec 32 := Scalar.muli v157 c1_i32_160
  let v159 : BitVec 32 := Scalar.addi c0_i32_161 v158
  v159.toNat
def k0_dev14 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_170 : BitVec 32 := 7#32
  let v168 : BitVec 32 := Scalar.addi v2 c7_i32_170
  let c8_i32_171 : BitVec 32 := 8#32
  let v169 : BitVec 32 := Scalar.remsi v168 c8_i32_171
  let c1_i32_176 : BitVec 32 := 1#32
  let v170 : BitVec 32 := Scalar.muli v169 c1_i32_176
  let v171 : BitVec 32 := Scalar.addi c0_i32_177 v170
  v171.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 172
  | .vmem => 0
  | .smem => 0
  | _ => 0

abbrev hbmTy0_0 (i : Nat) : BufTy := match i % 128 with
  | 0 => ⟨S2x2048x512, .bf16⟩
  | 1 => ⟨S512x256, .bf16⟩
  | 2 => ⟨S2x2048x4x64, .bf16⟩
  | 3 => ⟨S2x2048x4x64, .bf16⟩
  | 4 => ⟨S256x512, .bf16⟩
  | 5 => ⟨S_, .f32⟩
  | 6 => ⟨S_, .f32⟩
  | 7 => ⟨S_, .bf16⟩
  | 8 => ⟨S2x2048x4x64, .bf16⟩
  | 9 => ⟨S2x2048x4x64, .bf16⟩
  | 10 => ⟨S_, .bf16⟩
  | 11 => ⟨S2x2048x4x64, .bf16⟩
  | 12 => ⟨S2x2048x4x64, .bf16⟩
  | 13 => ⟨S_, .bf16⟩
  | 14 => ⟨S2x2048x4x64, .bf16⟩
  | 15 => ⟨S2x2048x4x64, .bf16⟩
  | 16 => ⟨S2x2048x4x64, .bf16⟩
  | 17 => ⟨S_, .bf16⟩
  | 18 => ⟨S2x2048x4x64, .bf16⟩
  | 19 => ⟨S2x2048x4x64, .bf16⟩
  | 20 => ⟨S_, .f32⟩
  | 21 => ⟨S_, .f32⟩
  | 22 => ⟨S_, .bf16⟩
  | 23 => ⟨S2x2048x4x64, .bf16⟩
  | 24 => ⟨S2x2048x4x64, .bf16⟩
  | 25 => ⟨S_, .bf16⟩
  | 26 => ⟨S2x2048x4x64, .bf16⟩
  | 27 => ⟨S2x2048x4x64, .bf16⟩
  | 28 => ⟨S_, .bf16⟩
  | 29 => ⟨S2x2048x4x64, .bf16⟩
  | 30 => ⟨S2x2048x4x64, .bf16⟩
  | 31 => ⟨S2x2048x4x64, .bf16⟩
  | 32 => ⟨S_, .bf16⟩
  | 33 => ⟨S2x2048x4x64, .bf16⟩
  | 34 => ⟨S2x2048x4x64, .bf16⟩
  | 35 => ⟨S2x2048x512, .f32⟩
  | 36 => ⟨S512x256, .f32⟩
  | 37 => ⟨S2x2048x4x64, .f32⟩
  | 38 => ⟨S2x2048x4x64, .f32⟩
  | 39 => ⟨S256x512, .f32⟩
  | 40 => ⟨S2x2048x256, .f32⟩
  | 41 => ⟨S2x2048x4x64, .f32⟩
  | 42 => ⟨S2048, .i32⟩
  | 43 => ⟨S_, .i32⟩
  | 44 => ⟨S_, .i32⟩
  | 45 => ⟨S2048, .i32⟩
  | 46 => ⟨S2048, .i32⟩
  | 47 => ⟨S2048, .i32⟩
  | 48 => ⟨S_, .i32⟩
  | 49 => ⟨S2048, .i32⟩
  | 50 => ⟨S2048, .i1⟩
  | 51 => ⟨S2048, .i32⟩
  | 52 => ⟨S2048, .i32⟩
  | 53 => ⟨S_, .i32⟩
  | 54 => ⟨S2048, .i32⟩
  | 55 => ⟨S2048, .i1⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S2048, .i32⟩
  | 63 => ⟨S_, .i32⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S2048, .i32⟩
  | 72 => ⟨S2048, .i32⟩
  | 73 => ⟨S_, .i32⟩
  | 74 => ⟨S2048, .i32⟩
  | 75 => ⟨S2048, .i1⟩
  | 76 => ⟨S2048, .i1⟩
  | 77 => ⟨S_, .i32⟩
  | 78 => ⟨S2048, .i32⟩
  | 79 => ⟨S2048, .i32⟩
  | 80 => ⟨S2048, .i32⟩
  | 81 => ⟨S1x2048, .i32⟩
  | 82 => ⟨S2048x2048, .i32⟩
  | 83 => ⟨S2048x2048, .i32⟩
  | 84 => ⟨S2048x2048, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S1x2048, .i32⟩
  | 92 => ⟨S1x2048, .i32⟩
  | 93 => ⟨S_, .i32⟩
  | 94 => ⟨S1x2048, .i32⟩
  | 95 => ⟨S1x2048, .i1⟩
  | 96 => ⟨S_, .i32⟩
  | 97 => ⟨S1x2048, .i32⟩
  | 98 => ⟨S1x2048, .i1⟩
  | 99 => ⟨S_, .i32⟩
  | 100 => ⟨S_, .i1⟩
  | 101 => ⟨S1x2048, .i1⟩
  | 102 => ⟨S1x2048, .i1⟩
  | 103 => ⟨S1x2048, .i1⟩
  | 104 => ⟨S1x2048, .i32⟩
  | 105 => ⟨S1x2048, .i32⟩
  | 106 => ⟨S1x2048, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S2048x1, .i32⟩
  | 114 => ⟨S2048x1, .i32⟩
  | 115 => ⟨S_, .i32⟩
  | 116 => ⟨S2048x1, .i32⟩
  | 117 => ⟨S2048x1, .i1⟩
  | 118 => ⟨S_, .i32⟩
  | 119 => ⟨S2048x1, .i32⟩
  | 120 => ⟨S2048x1, .i1⟩
  | 121 => ⟨S_, .i32⟩
  | 122 => ⟨S_, .i1⟩
  | 123 => ⟨S2048x1, .i1⟩
  | 124 => ⟨S2048x1, .i1⟩
  | 125 => ⟨S2048x1, .i1⟩
  | 126 => ⟨S2048x1, .i32⟩
  | 127 => ⟨S2048x1, .i32⟩
  | _ => ⟨S2x2048x512, .bf16⟩

abbrev hbmTy0_1 (i : Nat) : BufTy := match i % 128 with
  | 0 => ⟨S2048x1, .i32⟩
  | 1 => ⟨S2048x2048, .i32⟩
  | 2 => ⟨S2048x2048, .i32⟩
  | 3 => ⟨S2048x2048, .i1⟩
  | 4 => ⟨S2048x2048, .i1⟩
  | 5 => ⟨S2x4x2048x2048, .f32⟩
  | 6 => ⟨S_, .f32⟩
  | 7 => ⟨S2x4x2048x2048, .f32⟩
  | 8 => ⟨S2x4x2048x2048, .f32⟩
  | 9 => ⟨S1x1x2048x2048, .i1⟩
  | 10 => ⟨S_, .f32⟩
  | 11 => ⟨S_, .f32⟩
  | 12 => ⟨S2x4x2048x2048, .i1⟩
  | 13 => ⟨S2x4x2048x2048, .f32⟩
  | 14 => ⟨S2x4x2048x2048, .f32⟩
  | 15 => ⟨S_, .f32⟩
  | 16 => ⟨S2x4x2048, .f32⟩
  | 17 => ⟨S2x4x2048x1, .f32⟩
  | 18 => ⟨S2x4x2048x2048, .f32⟩
  | 19 => ⟨S2x4x2048x2048, .f32⟩
  | 20 => ⟨S2x4x2048x2048, .f32⟩
  | 21 => ⟨S_, .i1⟩
  | 22 => ⟨S2048, .i1⟩
  | 23 => ⟨S1x1x2048x1, .i1⟩
  | 24 => ⟨S_, .f32⟩
  | 25 => ⟨S2x4x2048, .f32⟩
  | 26 => ⟨S2x4x2048x1, .f32⟩
  | 27 => ⟨S_, .f32⟩
  | 28 => ⟨S_, .f32⟩
  | 29 => ⟨S2x4x2048x1, .i1⟩
  | 30 => ⟨S2x4x2048x1, .f32⟩
  | 31 => ⟨S2x4x2048x1, .f32⟩
  | 32 => ⟨S2x4x2048x2048, .f32⟩
  | 33 => ⟨S2x4x2048x2048, .f32⟩
  | 34 => ⟨S1x1x2048x1, .i1⟩
  | 35 => ⟨S_, .f32⟩
  | 36 => ⟨S_, .f32⟩
  | 37 => ⟨S2x4x2048x2048, .i1⟩
  | 38 => ⟨S2x4x2048x2048, .f32⟩
  | 39 => ⟨S2x4x2048x2048, .f32⟩
  | 40 => ⟨S2x4x64x2048, .f32⟩
  | 41 => ⟨S2x2048x4x64, .f32⟩
  | 42 => ⟨S2x2048x256, .f32⟩
  | 43 => ⟨S2x2048x512, .f32⟩
  | _ => ⟨S2x2048x512, .bf16⟩

abbrev hbmTy (i : Nat) : BufTy := match i / 128 with
  | 0 => hbmTy0_0 i
  | 1 => hbmTy0_1 i
  | _ => ⟨S2x2048x512, .bf16⟩

abbrev bufTy : (tb : Table) → Fin (tcTables nBuf tb) → BufTy
  | .hbm, ⟨i, _⟩ => hbmTy i
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v6 : Ref sig .tc := ⟨.hbm, 27, rfl⟩
abbrev main_cst_5 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_6 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_v8 : Ref sig .tc := ⟨.hbm, 52, rfl⟩
abbrev main_call4_c : Ref sig .tc := ⟨.hbm, 53, rfl⟩
abbrev main_call4_v9 : Ref sig .tc := ⟨.hbm, 54, rfl⟩
abbrev main_call4_v10 : Ref sig .tc := ⟨.hbm, 55, rfl⟩
abbrev main_call4_v11 : Ref sig .tc := ⟨.hbm, 56, rfl⟩
abbrev main_call4_c_0 : Ref sig .tc := ⟨.hbm, 57, rfl⟩
abbrev main_call4_v12 : Ref sig .tc := ⟨.hbm, 58, rfl⟩
abbrev main_call4_v13 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_7 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_c : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_c_0 : Ref sig .tc := ⟨.hbm, 77, rfl⟩
abbrev main_call5_v12 : Ref sig .tc := ⟨.hbm, 78, rfl⟩
abbrev main_call5_v13 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_8 : Ref sig .tc := ⟨.hbm, 85, rfl⟩
abbrev main_call6_v0 : Ref sig .tc := ⟨.hbm, 86, rfl⟩
abbrev main_call6_c : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_c_1 : Ref sig .tc := ⟨.hbm, 93, rfl⟩
abbrev main_call6_v5 : Ref sig .tc := ⟨.hbm, 94, rfl⟩
abbrev main_call6_v6 : Ref sig .tc := ⟨.hbm, 95, rfl⟩
abbrev main_call6_c_2 : Ref sig .tc := ⟨.hbm, 96, rfl⟩
abbrev main_call6_v7 : Ref sig .tc := ⟨.hbm, 97, rfl⟩
abbrev main_call6_v8 : Ref sig .tc := ⟨.hbm, 98, rfl⟩
abbrev main_call6_c_3 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_v12 : Ref sig .tc := ⟨.hbm, 103, rfl⟩
abbrev main_call6_v13 : Ref sig .tc := ⟨.hbm, 104, rfl⟩
abbrev main_call6_v14 : Ref sig .tc := ⟨.hbm, 105, rfl⟩
abbrev main_v28 : Ref sig .tc := ⟨.hbm, 106, rfl⟩
abbrev main_c_9 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_c_1 : Ref sig .tc := ⟨.hbm, 115, rfl⟩
abbrev main_call7_v5 : Ref sig .tc := ⟨.hbm, 116, rfl⟩
abbrev main_call7_v6 : Ref sig .tc := ⟨.hbm, 117, rfl⟩
abbrev main_call7_c_2 : Ref sig .tc := ⟨.hbm, 118, rfl⟩
abbrev main_call7_v7 : Ref sig .tc := ⟨.hbm, 119, rfl⟩
abbrev main_call7_v8 : Ref sig .tc := ⟨.hbm, 120, rfl⟩
abbrev main_call7_c_3 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_cst_10 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_cst_11 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v38 : Ref sig .tc := ⟨.hbm, 142, rfl⟩
abbrev main_cst_12 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_c_13 : Ref sig .tc := ⟨.hbm, 149, rfl⟩
abbrev main_v44 : Ref sig .tc := ⟨.hbm, 150, rfl⟩
abbrev main_v45 : Ref sig .tc := ⟨.hbm, 151, rfl⟩
abbrev main_cst_14 : Ref sig .tc := ⟨.hbm, 152, rfl⟩
abbrev main_v46 : Ref sig .tc := ⟨.hbm, 153, rfl⟩
abbrev main_v47 : Ref sig .tc := ⟨.hbm, 154, rfl⟩
abbrev main_cst_15 : Ref sig .tc := ⟨.hbm, 155, rfl⟩
abbrev main_call9_v0 : Ref sig .tc := ⟨.hbm, 156, rfl⟩
abbrev main_call9_v1 : Ref sig .tc := ⟨.hbm, 157, rfl⟩
abbrev main_call9_v2 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_cst_16 : Ref sig .tc := ⟨.hbm, 163, rfl⟩
abbrev main_call10_v0 : Ref sig .tc := ⟨.hbm, 164, rfl⟩
abbrev main_call10_v1 : Ref sig .tc := ⟨.hbm, 165, rfl⟩
abbrev main_call10_v2 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩

abbrev nD : Nat := 1
abbrev τ : Topo := Topo.v7x

variable {F : FTy → Type} [FloatOps F]
-- ==== Proof.Protocol.lean ====
/-
# The exchange of quantised blocks between the eight devices

Every device signals the barrier semaphore of each of its seven peers, quantises its own keys and values into
slot 0 of its buffer, waits for seven signals, and copies slot 0 into slot `d` of the device `d` places further,
for `d = 1 … 7`.

* The barrier cell of device `c`: seven duties of one unit; duty `j` is paid by the device `j + 1` places after
  `c`, and hands `c` that device's slot `j + 1`, into which `c` will copy.
* Send cell `j` of device `c`: the copy to the device `j + 1` places further gives back a share of slot 0.
* Receive cell `j` of device `c`: the copy from the device `j + 1` places before `c` gives slot `j + 1`, holding
  that device's quantised block.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Who talks to whom -/

set_option backward.proofsInPublic true in
/-- The device `j + 1` places after `c`. -/
def peer (c : Dev nD) (j : Fin 7) : Dev nD := ⟨(c.val + j.val + 1) % 8, Nat.mod_lt _ (by decide)⟩
set_option backward.proofsInPublic true in
/-- The device `d` places before `c`: the one whose block lands in slot `d`. -/
def src (c : Dev nD) (d : Fin 8) : Dev nD := ⟨(c.val + 8 - d.val) % 8, Nat.mod_lt _ (by decide)⟩

theorem peer_rev (c : Dev nD) (j : Fin 7) : peer (peer c j) j.rev = c := by revert c j; decide
theorem peer_rev' (c : Dev nD) (j : Fin 7) : peer (peer c j.rev) j = c := by revert c j; decide
theorem src_zero (c : Dev nD) : src c 0 = c := by revert c; decide
theorem src_peer (c : Dev nD) (j : Fin 7) : src (peer c j) j.succ = c := by revert c j; decide

theorem sig1_eq (c : Dev nD) : (⟨k0_dev1 c, k0_dev1_lt c⟩ : Dev nD) = peer c 0 := Fin.ext (k0_dev1_eq c)
theorem sig2_eq (c : Dev nD) : (⟨k0_dev2 c, k0_dev2_lt c⟩ : Dev nD) = peer c 1 := Fin.ext (k0_dev2_eq c)
theorem sig3_eq (c : Dev nD) : (⟨k0_dev3 c, k0_dev3_lt c⟩ : Dev nD) = peer c 2 := Fin.ext (k0_dev3_eq c)
theorem sig4_eq (c : Dev nD) : (⟨k0_dev4 c, k0_dev4_lt c⟩ : Dev nD) = peer c 3 := Fin.ext (k0_dev4_eq c)
theorem sig5_eq (c : Dev nD) : (⟨k0_dev5 c, k0_dev5_lt c⟩ : Dev nD) = peer c 4 := Fin.ext (k0_dev5_eq c)
theorem sig6_eq (c : Dev nD) : (⟨k0_dev6 c, k0_dev6_lt c⟩ : Dev nD) = peer c 5 := Fin.ext (k0_dev6_eq c)
theorem sig7_eq (c : Dev nD) : (⟨k0_dev7 c, k0_dev7_lt c⟩ : Dev nD) = peer c 6 := Fin.ext (k0_dev7_eq c)
theorem copy1_eq (c : Dev nD) : (⟨k0_dev8 c, k0_dev8_lt c⟩ : Dev nD) = peer c 0 := Fin.ext (k0_dev8_eq c)
theorem copy2_eq (c : Dev nD) : (⟨k0_dev9 c, k0_dev9_lt c⟩ : Dev nD) = peer c 1 := Fin.ext (k0_dev9_eq c)
theorem copy3_eq (c : Dev nD) : (⟨k0_dev10 c, k0_dev10_lt c⟩ : Dev nD) = peer c 2 := Fin.ext (k0_dev10_eq c)
theorem copy4_eq (c : Dev nD) : (⟨k0_dev11 c, k0_dev11_lt c⟩ : Dev nD) = peer c 3 := Fin.ext (k0_dev11_eq c)
theorem copy5_eq (c : Dev nD) : (⟨k0_dev12 c, k0_dev12_lt c⟩ : Dev nD) = peer c 4 := Fin.ext (k0_dev12_eq c)
theorem copy6_eq (c : Dev nD) : (⟨k0_dev13 c, k0_dev13_lt c⟩ : Dev nD) = peer c 5 := Fin.ext (k0_dev13_eq c)
theorem copy7_eq (c : Dev nD) : (⟨k0_dev14 c, k0_dev14_lt c⟩ : Dev nD) = peer c 6 := Fin.ext (k0_dev14_eq c)

/-! ## The buffers -/

abbrev xM : Memref sig .tc .vmem S2x256x512 .bf16 := Memref.whole cc0_stg0_0
abbrev wqM : Memref sig .tc .vmem S512x256 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev woM : Memref sig .tc .vmem S256x512 .bf16 := Memref.whole cc0_stg4_0
abbrev outM : Memref sig .tc .vmem S2x256x512 .f32 := Memref.whole cc0_stg5_0
abbrev kvM : Memref sig .tc .vmem S8x2x2x256x256 .i8 := Memref.whole cc0_scratch0

theorem slot_inb (d : Fin 8) : ∀ a, (![d.val, 0, 0, 0, 0] : Fin 5 → Nat) a + S1x2x2x256x256.size a ≤ S8x2x2x256x256.size a := by
  revert d; decide
/-- Slot `d` of the quantised buffer. -/
abbrev slotM (d : Fin 8) : Memref sig .tc .vmem S2x2x256x256 .i8 :=
  (kvM.slice (Rect.unit (s := S8x2x2x256x256) ![d.val, 0, 0, 0, 0] S1x2x2x256x256.size (slot_inb d)) (fun _ => rfl)).squeeze
    S2x2x256x256 squeezes_S1x2x2x256x256_S2x2x256x256

theorem sem_inb (j : Fin 7) : ∀ a, (![j.val] : Fin 1 → Nat) a + S1.size a ≤ S7.size a := by revert j; decide
abbrev barS : Sem sig := (SemArray.scalar (sig.barrier 0 rfl) : Sems sig S_).sem
abbrev sendS (j : Fin 7) : DmaSem sig :=
  ((cc0_scratch1.slice (Rect.unit (s := S7) ![j.val] S1.size (sem_inb j))).squeeze S_ squeezes_S1_S_).sem
abbrev recvS (j : Fin 7) : DmaSem sig :=
  ((cc0_scratch2.slice (Rect.unit (s := S7) ![j.val] S1.size (sem_inb j))).squeeze S_ squeezes_S1_S_).sem

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The part a semaphore plays in the exchange. -/
inductive Role where
  | bar | send (j : Fin 7) | recv (j : Fin 7) | other
  deriving DecidableEq

def role : SemLoc sig → Role
  | .reg s => if s = barS then .bar else .other
  | .dma q => if h : 6 ≤ q.val ∧ q.val < 13 then .send ⟨q.val - 6, by omega⟩
      else if h : 13 ≤ q.val ∧ q.val < 20 then .recv ⟨q.val - 13, by omega⟩ else .other

theorem role_bar : role (.reg barS) = .bar := by decide
theorem role_send (j : Fin 7) : role (.dma (sendS j)) = .send j := by revert j; decide
theorem role_recv (j : Fin 7) : role (.dma (recvS j)) = .recv j := by revert j; decide

abbrev N : ℕ := (slotM 0).view.dmaCredit
theorem N_pos : 0 < N := View.dmaCredit_pos _ (by decide)
theorem N_slot (d : Fin 8) : (slotM d).view.dmaCredit = N := rfl

/-! ## Contents -/

/-- The staged blocks of device `c`. -/
def stg0 (c : Dev nD) : (cc0_stg0_0 : Ref sig .tc).ty.Contents (Elt F) := (win0_0.blk (0 : Fin 1)).view.read (Elt F) (m ((c : Thread nD τ).loc main_arg0))
def stg1 (c : Dev nD) : (cc0_stg1_0 : Ref sig .tc).ty.Contents (Elt F) := (win0_1.blk (0 : Fin 1)).view.read (Elt F) (m ((c : Thread nD τ).loc main_arg1))
def stg2 (c : Dev nD) : (cc0_stg2_0 : Ref sig .tc).ty.Contents (Elt F) := (win0_2.blk (0 : Fin 1)).view.read (Elt F) (m ((c : Thread nD τ).loc main_arg2))
def stg3 (c : Dev nD) : (cc0_stg3_0 : Ref sig .tc).ty.Contents (Elt F) := (win0_3.blk (0 : Fin 1)).view.read (Elt F) (m ((c : Thread nD τ).loc main_arg3))
def stg4 (c : Dev nD) : (cc0_stg4_0 : Ref sig .tc).ty.Contents (Elt F) := (win0_4.blk (0 : Fin 1)).view.read (Elt F) (m ((c : Thread nD τ).loc main_arg4))

/-- Batch 0 and batch 1 of the staged keys and values. -/
def ldK0 (c : Dev nD) : Vec F S1x256x4x64 .bf16 :=
  kM.view.readAt (Elt F) (Rect.unit (s := S2x256x4x64) ![0, 0, 0, 0] S1x256x4x64.size inb_S2x256x4x64_S1x256x4x64_0_0_0_0).toLoadRect (stg2 m c)
def ldK1 (c : Dev nD) : Vec F S1x256x4x64 .bf16 :=
  kM.view.readAt (Elt F) (Rect.unit (s := S2x256x4x64) ![1, 0, 0, 0] S1x256x4x64.size inb_S2x256x4x64_S1x256x4x64_1_0_0_0).toLoadRect (stg2 m c)
def ldV0 (c : Dev nD) : Vec F S1x256x4x64 .bf16 :=
  vM.view.readAt (Elt F) (Rect.unit (s := S2x256x4x64) ![0, 0, 0, 0] S1x256x4x64.size inb_S2x256x4x64_S1x256x4x64_0_0_0_0).toLoadRect (stg3 m c)
def ldV1 (c : Dev nD) : Vec F S1x256x4x64 .bf16 :=
  vM.view.readAt (Elt F) (Rect.unit (s := S2x256x4x64) ![1, 0, 0, 0] S1x256x4x64.size inb_S2x256x4x64_S1x256x4x64_1_0_0_0).toLoadRect (stg3 m c)

/-- The four quantised tiles of device `p`: keys (`k = 0`) and values (`k = 1`) of each batch entry. -/
def quant (p : Dev nD) (k b : Fin 2) : Vec F S1x1x1x256x256 .i8 :=
  match k, b with
  | 0, 0 => k0_pay1 (ldK0 m p)
  | 1, 0 => k0_pay4 (k0_pay2 (ldV0 m p)) (k0_pay3 (F := F))
  | 0, 1 => k0_pay5 (ldK1 m p)
  | 1, 1 => k0_pay7 (k0_pay6 (ldV1 m p)) (Scalar.ofBits .bf16 0x41CB#16)

/-- The entry of a tile under an index of the whole buffer. -/
def tileIdx (i : S8x2x2x256x256.Idx) : S1x1x1x256x256.Idx := fun a => match a with
  | 0 => (0 : Fin 1) | 1 => (0 : Fin 1) | 2 => (0 : Fin 1) | 3 => (i 3 : Fin 256) | 4 => (i 4 : Fin 256)

/-- The quantised buffer of device `c` once everything has landed: slot `d` holds the block of the device `d` places before. -/
def KV (c : Dev nD) : Buf (Elt F) ((c : Thread nD τ).loc cc0_scratch0) :=
  fun (i : S8x2x2x256x256.Idx) => quant m (src c (i 0)) (i 1) (i 2) (tileIdx i)

def slotPts (c : Dev nD) (d : Fin 8) (q : PosShare TreeShare) (f : Buf (Elt F) ((c : Thread nD τ).loc cc0_scratch0)) : sProp 𝕄 :=
  (slotM d).view.loc (c : Thread nD τ) ↦[(slotM d).view.set]{q} f

omit [FloatOps F] in
instance slotPts_storable (c : Dev nD) (d) (q) (f) : BI.Storable (upEmb : UEmb _ 𝕄) (slotPts (F := F) c d q f) := by unfold slotPts; infer_instance

omit [FloatOps F] in
theorem slot_mem (d : Fin 8) (i : S8x2x2x256x256.Idx) : i ∈ (slotM d).view.set ↔ i 0 = d := by
  have h : (slotM d).view.set = (Rect.unit (s := S8x2x2x256x256) ![d.val, 0, 0, 0, 0] S1x2x2x256x256.size (slot_inb d)).set := by
    show (((View.whole cc0_scratch0).slice _).reshape _ _).set = _
    rw [View.set_reshape, View.set_slice_whole]
  rw [h]
  refine (Rect.mem_set_unit).trans ⟨fun H => ?_, fun H a => ?_⟩
  · have := H 0
    exact Fin.ext (by have h1 := this.1; have h2 := this.2; simp at h1 h2; omega)
  · subst H
    fin_cases a
    · exact ⟨le_refl _, Nat.lt_succ_self _⟩
    · exact ⟨Nat.zero_le _, by simpa using (show (i 1).val < 2 from (i 1).isLt)⟩
    · exact ⟨Nat.zero_le _, by simpa using (show (i 2).val < 2 from (i 2).isLt)⟩
    · exact ⟨Nat.zero_le _, by simpa using (show (i 3).val < 256 from (i 3).isLt)⟩
    · exact ⟨Nat.zero_le _, by simpa using (show (i 4).val < 256 from (i 4).isLt)⟩

end Cert.Attn

end
-- ==== Proof.Slots.lean ====
/-
# The slots of the quantised buffer

The buffer is its eight slots; a tile read from slot `d` of the filled buffer is a quantised tile of the device `d`
places before; the four stores fill slot 0; a copy from slot 0 of a device fills the slot of the device it goes to.
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem slots_disjoint : ∀ d ∈ (Finset.univ : Finset (Fin 8)), ∀ d' ∈ (Finset.univ : Finset (Fin 8)), d ≠ d' →
    Disjoint (slotM d).view.set (slotM d').view.set := by
  intro d _ d' _ h
  exact Finset.disjoint_left.mpr fun i hi hi' => h (((slot_mem d i).mp hi).symm.trans ((slot_mem d' i).mp hi'))

omit [FloatOps F] in
theorem slots_cover : (Finset.univ : Finset (Fin 8)).biUnion (fun d => (slotM d).view.set) = (Finset.univ : Finset S8x2x2x256x256.Idx) := by
  ext i
  simp only [Finset.mem_biUnion, Finset.mem_univ, true_and, iff_true]
  exact ⟨i 0, (slot_mem (i 0) i).mpr rfl⟩

omit [FloatOps F] in
theorem kv_slots (c : Dev nD) (f : Buf (Elt F) ((c : Thread nD τ).loc cc0_scratch0)) :
    (((c : Thread nD τ).loc cc0_scratch0) ↦{fullShare} f : sProp 𝕄)
      = iprop(slotPts c 0 fullShare f ∗ slotPts c 1 fullShare f ∗ slotPts c 2 fullShare f ∗ slotPts c 3 fullShare f
          ∗ slotPts c 4 fullShare f ∗ slotPts c 5 fullShare f ∗ slotPts c 6 fullShare f ∗ slotPts c 7 fullShare f) := by
  have h := pointsTo_biUnion (nD := nD) (τ := τ) (sig := sig) (Val := Elt F) (Ix := Unit) (Name := ℕ) (U := UU) (Lvl := ℕ) (ℓ := (c : Thread nD τ).loc cc0_scratch0)
    (q := fullShare) (f := f) Finset.univ (fun d : Fin 8 => (slotM d).view.set) slots_disjoint
  rw [bigSep_univ_eq_bigSepL [0, 1, 2, 3, 4, 5, 6, 7] (by decide) (by decide)] at h
  rw [← show (Finset.univ : Finset (Fin 8)).biUnion (fun d => (slotM d).view.set) = (Finset.univ : Finset S8x2x2x256x256.Idx) from slots_cover]
  exact h

/-! ## Tiles -/

/-- The leading coordinates of an index: slot, keys or values, batch entry. -/
def ax0 (i : S8x2x2x256x256.Idx) : Fin 8 := i 0
def ax1 (i : S8x2x2x256x256.Idx) : Fin 2 := i 1
def ax2 (i : S8x2x2x256x256.Idx) : Fin 2 := i 2

theorem tile_inb (d : Fin 8) (k b : Fin 2) : ∀ a, (![d.val, k.val, b.val, 0, 0] : Fin 5 → Nat) a + S1x1x1x256x256.size a ≤ S8x2x2x256x256.size a := by
  revert d k b; decide
abbrev tileR (d : Fin 8) (k b : Fin 2) : Rect S8x2x2x256x256 :=
  Rect.unit (s := S8x2x2x256x256) ![d.val, k.val, b.val, 0, 0] S1x1x1x256x256.size (tile_inb d k b)

omit [FloatOps F] in
theorem tile_mem (d : Fin 8) (k b : Fin 2) (i : S8x2x2x256x256.Idx) : i ∈ (tileR d k b).set ↔ i 0 = d ∧ i 1 = k ∧ i 2 = b := by
  refine (Rect.mem_set_unit).trans ⟨fun H => ?_, fun H a => ?_⟩
  · refine ⟨Fin.ext ?_, Fin.ext ?_, Fin.ext ?_⟩
    · have h1 := (H 0).1; have h2 := (H 0).2; simp at h1 h2; omega
    · have h1 := (H 1).1; have h2 := (H 1).2; simp at h1 h2; omega
    · have h1 := (H 2).1; have h2 := (H 2).2; simp at h1 h2; omega
  · obtain ⟨rfl, rfl, rfl⟩ := H
    fin_cases a
    · exact ⟨le_refl _, Nat.lt_succ_self _⟩
    · exact ⟨le_refl _, Nat.lt_succ_self _⟩
    · exact ⟨le_refl _, Nat.lt_succ_self _⟩
    · exact ⟨Nat.zero_le _, by simpa using (show (i 3).val < 256 from (i 3).isLt)⟩
    · exact ⟨Nat.zero_le _, by simpa using (show (i 4).val < 256 from (i 4).isLt)⟩

omit [FloatOps F] in
theorem tile_emb (d : Fin 8) (k b : Fin 2) (i : S8x2x2x256x256.Idx) (h0 : i 0 = d) (h1 : i 1 = k) (h2 : i 2 = b) :
    (tileR d k b).emb (tileIdx i) = i := by
  subst h0 h1 h2
  funext a
  fin_cases a
  · exact Fin.ext (by show (i 0).val + 1 * 0 = _; simp)
  · exact Fin.ext (by show (i 1).val + 1 * 0 = _; simp)
  · exact Fin.ext (by show (i 2).val + 1 * 0 = _; simp)
  · exact Fin.ext (by show 0 + 1 * (i 3).val = _; simp)
  · exact Fin.ext (by show 0 + 1 * (i 4).val = _; simp)

omit [FloatOps F] in
theorem tile_write (d : Fin 8) (k b : Fin 2) (f : (cc0_scratch0 : Ref sig .tc).ty.Contents (Elt F)) (w : Vec F S1x1x1x256x256 .i8) (i : S8x2x2x256x256.Idx) :
    ((kvM.access (tileR d k b) : View sig .tc _ _ _).write (Elt F) f w Finset.univ) i
      = if ax0 i = d ∧ ax1 i = k ∧ ax2 i = b then w (tileIdx i) else f i := by
  by_cases h : ax0 i = d ∧ ax1 i = k ∧ ax2 i = b
  · rw [if_pos h]
    have hi : (kvM.access (tileR d k b) : View sig .tc _ _ _).emb (tileIdx i) = i := tile_emb d k b i h.1 h.2.1 h.2.2
    conv_lhs => rw [← hi]
    exact (View.write_emb_of_mem _ _ (Finset.mem_univ _)).trans rfl
  · rw [if_neg h]
    refine View.write_of_not_mem _ _ _ fun hm => h ?_
    rw [View.setOn_univ] at hm
    have : (kvM.access (tileR d k b) : View sig .tc _ _ _).set = (tileR d k b).set := View.set_slice_whole _ _
    rw [this] at hm
    exact (tile_mem d k b i).mp hm

theorem tile_idx_self (d : Fin 8) (k b : Fin 2) (x : S1x1x1x256x256.Idx) : tileIdx ((tileR d k b).emb x) = x := by
  funext a
  fin_cases a
  · exact Subsingleton.elim (α := Fin 1) _ _
  · exact Subsingleton.elim (α := Fin 1) _ _
  · exact Subsingleton.elim (α := Fin 1) _ _
  · exact Fin.ext (by show 0 + 1 * (x 3).val = _; simp)
  · exact Fin.ext (by show 0 + 1 * (x 4).val = _; simp)

/-- A tile of the filled buffer. -/
theorem kv_read (c : Dev nD) (d : Fin 8) (k b : Fin 2) :
    kvM.view.readAt (Elt F) (tileR d k b).toLoadRect (KV m c) = quant m (src c d) k b := by
  funext x
  show KV m c ((tileR d k b).emb x) = _
  obtain ⟨h0, h1, h2⟩ := (tile_mem d k b _).mp ((tileR d k b).idx_mem x)
  unfold KV
  have e0 : ((tileR d k b).emb x) 0 = d := h0
  have e1 : ((tileR d k b).emb x) 1 = k := h1
  have e2 : ((tileR d k b).emb x) 2 = b := h2
  rw [tile_idx_self, e0, e1, e2]

omit [FloatOps F] in
theorem tile_sub (d : Fin 8) (k b : Fin 2) : kvM.view.setOn (tileR d k b).toLoadRect.set ⊆ (slotM d).view.set := by
  intro i hi
  have hi' : i ∈ (tileR d k b).set := by
    obtain ⟨x, hx, rfl⟩ := Finset.mem_map.mp hi
    exact hx
  exact (slot_mem d i).mpr ((tile_mem d k b i).mp hi').1

omit [FloatOps F] in
theorem tile_access_sub (d : Fin 8) (k b : Fin 2) : (kvM.access (tileR d k b) : View sig .tc _ _ _).setOn Finset.univ ⊆ (slotM d).view.set := by
  intro i hi
  have : (kvM.access (tileR d k b) : View sig .tc _ _ _).set = (tileR d k b).set := View.set_slice_whole _ _
  rw [View.setOn_univ, this] at hi
  exact (slot_mem d i).mpr ((tile_mem d k b i).mp hi).1

/-- The four stores into slot 0. -/
def stored (c : Dev nD) (f : Buf (Elt F) ((c : Thread nD τ).loc cc0_scratch0)) : Buf (Elt F) ((c : Thread nD τ).loc cc0_scratch0) :=
  (kvM.access (tileR 0 1 1) : View sig .tc _ _ _).write (Elt F)
    ((kvM.access (tileR 0 0 1) : View sig .tc _ _ _).write (Elt F)
      ((kvM.access (tileR 0 1 0) : View sig .tc _ _ _).write (Elt F)
        ((kvM.access (tileR 0 0 0) : View sig .tc _ _ _).write (Elt F) f (quant m c 0 0) Finset.univ)
        (quant m c 1 0) Finset.univ)
      (quant m c 0 1) Finset.univ)
    (quant m c 1 1) Finset.univ

theorem stored_eq (c : Dev nD) (f : Buf (Elt F) ((c : Thread nD τ).loc cc0_scratch0)) (i : S8x2x2x256x256.Idx) (hi : ax0 i = 0) :
    stored m c f i = KV m c i := by
  unfold stored
  rw [tile_write, tile_write, tile_write, tile_write]
  rw [hi, show KV m c i = quant m (src c (ax0 i)) (ax1 i) (ax2 i) (tileIdx i) from rfl, hi, src_zero]
  have two : ∀ k : Fin 2, k = 0 ∨ k = 1 := by decide
  have h1 := two (ax1 i)
  have h2 := two (ax2 i)
  rcases h1 with h1 | h1 <;> rcases h2 with h2 | h2 <;> rw [h1, h2] <;> rfl

theorem slot0_stored (c : Dev nD) (f : Buf (Elt F) ((c : Thread nD τ).loc cc0_scratch0)) :
    (slotPts c 0 fullShare (stored m c f) : sProp 𝕄) = slotPts c 0 fullShare (KV m c) := by
  unfold slotPts
  exact pointsTo_congr fun i hi => stored_eq m c f i ((slot_mem 0 i).mp hi)

/-! ## Landing -/

/-- The entry of the slot under an index of the block sent. -/
def inner (x : S2x2x256x256.Idx) : S1x2x2x256x256.Idx := Shape.reshapeEquiv (squeezes_S1x2x2x256x256_S2x2x256x256).numel_eq x

omit [FloatOps F] in
theorem slot_emb (d : Fin 8) (x : S2x2x256x256.Idx) :
    (slotM d).view.emb x = (Rect.unit (s := S8x2x2x256x256) ![d.val, 0, 0, 0, 0] S1x2x2x256x256.size (slot_inb d)).emb (inner x) := rfl

theorem slot_emb_zero (d : Fin 8) (x : S2x2x256x256.Idx) : (((slotM d).view.emb x : S8x2x2x256x256.Idx) 0 : Fin 8) = d :=
  (slot_mem d _).mp ((slotM d).view.emb_mem_set x)

theorem KV_move (c : Dev nD) (j : Fin 7) (x : S2x2x256x256.Idx) :
    KV m (peer c j) ((slotM j.succ).view.emb x) = KV m c ((slotM 0).view.emb x) := by
  have h0 := slot_emb_zero 0 x
  have h1 := slot_emb_zero j.succ x
  have k1 : (((slotM j.succ).view.emb x : S8x2x2x256x256.Idx) 1 : Fin 2) = ((slotM 0).view.emb x : S8x2x2x256x256.Idx) 1 := rfl
  have k2 : (((slotM j.succ).view.emb x : S8x2x2x256x256.Idx) 2 : Fin 2) = ((slotM 0).view.emb x : S8x2x2x256x256.Idx) 2 := rfl
  have k3 : tileIdx ((slotM j.succ).view.emb x : S8x2x2x256x256.Idx) = tileIdx ((slotM 0).view.emb x : S8x2x2x256x256.Idx) := rfl
  unfold KV
  rw [h0, h1, k1, k2, k3, src_zero, src_peer]

theorem landed (c : Dev nD) (j : Fin 7) (fd : Buf (Elt F) ((peer c j : Thread nD τ).loc cc0_scratch0)) :
    ((slotM j.succ).view.loc (peer c j : Thread nD τ) ↦[(slotM j.succ).view.set]{fullShare}
        ((slotM j.succ).view.write (Elt F) fd ((slotM 0).view.read (Elt F) (KV m c)) Finset.univ) : sProp 𝕄)
      = slotPts (peer c j) j.succ fullShare (KV m (peer c j)) := by
  unfold slotPts
  refine pointsTo_congr fun i hi => ?_
  obtain ⟨x, -, rfl⟩ := Finset.mem_map.mp hi
  refine (View.write_emb_of_mem _ _ (Finset.mem_univ _)).trans ?_
  exact (KV_move m c j x).symm

end Cert.Attn

end
-- ==== Proof.Sched.lean ====
/-
# The schedule of the exchange, what each device owes, and the levels
-/
module

public import proofs.«01_k».proof.Proof.Slots
public import Idealize.ShloMosaic.Lib.Transfers

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The schedule -/

/-- The share of slot 0 that the copy to the device `j + 1` places further reads at. -/
abbrev sendShare (j : Fin 7) : PosShare TreeShare := Transfers.shareTok fullShare 7 j
/-- The share of slot 0 kept by the device. -/
abbrev keptShare : PosShare TreeShare := Transfers.shareDrop fullShare 7

def barPay (c : Dev nD) (j : Fin 7) : sProp 𝕄 := iprop(∃ f, slotPts (peer c j) j.succ fullShare f)
def sendPay (c : Dev nD) (j : Fin 7) : sProp 𝕄 := slotPts c 0 (sendShare j) (KV m c)
def recvPay (c : Dev nD) (j : Fin 7) : sProp 𝕄 := slotPts c j.succ fullShare (KV m c)

def dutiesOf : Role → Finset (Fin 7)
  | .bar => Finset.univ | .send _ => {0} | .recv _ => {0} | .other => ∅
def amountOf : Role → ℕ
  | .bar => 1 | _ => N
def payOf (c : Dev nD) (d : Fin 7) : Role → sProp 𝕄
  | .bar => barPay c d | .send j => sendPay m c j | .recv j => recvPay m c j | .other => iprop(emp)

/-- One round, round 0, of every cell. -/
def Rd : Rounds.Schedule (GSem nD τ sig) (Fin 7) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    cases role g.2
    · exact Nat.one_pos
    all_goals exact N_pos

instance Rd_payload_storable (g : GSem nD τ sig) (r : ℕ) (d : Fin 7) :
    BI.Storable (upEmb : UEmb _ 𝕄) ((Rd (F := F) m).payload g r d) := by
  show BI.Storable upEmb (payOf m g.1.1 d (role g.2))
  cases role g.2 <;> unfold payOf
  · unfold barPay; infer_instance
  · unfold sendPay; infer_instance
  · unfold recvPay; infer_instance
  · infer_instance

section Tables
variable (c : Dev nD) (j : Fin 7)

theorem duties_bar : (Rd (F := F) m).duties (barCell c) 0 = Finset.univ := by
  dsimp only [Rd]; rw [if_pos ⟨rfl, rfl⟩, role_bar]; rfl
theorem duties_send : (Rd (F := F) m).duties (sendCell c j) 0 = {0} := by
  dsimp only [Rd]; rw [if_pos ⟨rfl, rfl⟩, role_send]; rfl
theorem duties_recv : (Rd (F := F) m).duties (recvCell c j) 0 = {0} := by
  dsimp only [Rd]; rw [if_pos ⟨rfl, rfl⟩, role_recv]; rfl
theorem duties_later (g : GSem nD τ sig) : ∀ r, 1 ≤ r → (Rd (F := F) m).duties g r = ∅ :=
  fun r hr => by dsimp only [Rd]; rw [if_neg fun h => by omega]

theorem amount_bar (d : Fin 7) : (Rd (F := F) m).amount (barCell c) 0 d = 1 := by dsimp only [Rd]; rw [role_bar]; rfl
theorem amount_send (d : Fin 7) : (Rd (F := F) m).amount (sendCell c j) 0 d = N := by dsimp only [Rd]; rw [role_send]; rfl
theorem amount_recv (d : Fin 7) : (Rd (F := F) m).amount (recvCell c j) 0 d = N := by dsimp only [Rd]; rw [role_recv]; rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (d : Fin 7) : (Rd (F := F) m).payload (barCell c) 0 d = barPay c d := by dsimp only [Rd]; rw [role_bar]; rfl
theorem payload_send (d : Fin 7) : (Rd (F := F) m).payload (sendCell c j) 0 d = sendPay m c j := by dsimp only [Rd]; rw [role_send]; rfl
theorem payload_recv (d : Fin 7) : (Rd (F := F) m).payload (recvCell c j) 0 d = recvPay m c j := by dsimp only [Rd]; rw [role_recv]; rfl

theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rest_bar : bigSep ((Rd (F := F) m).duties (barCell c) 0 \ ∅) (fun d => (Rd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_congr (s := Finset.univ) (fun d _ => payload_bar m c d), fin7]
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Tables

/-! ## What a device owes -/

/-- The signals still to be given, from the `k`-th on. -/
def OBar (c : Dev nD) (k : ℕ) : CellTallies nD τ sig Unit := ∑ j : Fin 7, if k ≤ j.val then tallyAt (barCell (peer c j)) () 1 else 0
/-- The copies still to be started, from the `k`-th on. -/
def OSend (c : Dev nD) (k : ℕ) : CellTallies nD τ sig Unit := ∑ j : Fin 7, if k ≤ j.val then tallyAt (recvCell (peer c j) j) () N else 0
/-- All a device owes at the launch. -/
def O₀ (c : Dev nD) : CellTallies nD τ sig Unit := OSend c 0 + OBar c 0

theorem sum_peel {A : Type} [AddCommMonoid A] (f : Fin 7 → A) (j : Fin 7) :
    (∑ i : Fin 7, if j.val ≤ i.val then f i else 0) = (∑ i : Fin 7, if j.val + 1 ≤ i.val then f i else 0) + f j := by
  have h : f j = ∑ i : Fin 7, if i = j then f i else 0 := by rw [Finset.sum_ite_eq' Finset.univ j f, if_pos (Finset.mem_univ _)]
  rw [h, ← Finset.sum_add_distrib]
  refine Finset.sum_congr rfl fun i _ => ?_
  by_cases h1 : i = j
  · subst h1; rw [if_pos (le_refl _), if_neg (by omega), if_pos rfl, zero_add]
  · rw [if_neg h1, add_zero]
    have : i.val ≠ j.val := fun h => h1 (Fin.ext h)
    by_cases h2 : j.val ≤ i.val
    · rw [if_pos h2, if_pos (by omega)]
    · rw [if_neg h2, if_neg (by omega)]

theorem OBar_peel (c : Dev nD) (j : Fin 7) (O : CellTallies nD τ sig Unit) :
    O + OBar c j.val = (O + OBar c (j.val + 1)) + tallyAt (barCell (peer c j)) () 1 := by
  unfold OBar; rw [sum_peel (fun j => tallyAt (barCell (peer c j)) () 1) j, add_assoc]
theorem OSend_peel (c : Dev nD) (j : Fin 7) : OSend c j.val = OSend c (j.val + 1) + tallyAt (recvCell (peer c j) j) () N := by
  unfold OSend; rw [sum_peel (fun j => tallyAt (recvCell (peer c j) j) () N) j]
theorem OBar_end (c : Dev nD) : OBar c 7 = 0 := by
  unfold OBar; exact Finset.sum_eq_zero fun j _ => if_neg (by have := j.isLt; omega)
theorem OSend_end (c : Dev nD) : OSend c 7 = 0 := by
  unfold OSend; exact Finset.sum_eq_zero fun j _ => if_neg (by have := j.isLt; omega)

theorem OBar_apply (c : Dev nD) (k : ℕ) (g : GSem nD τ sig) (u : Unit) :
    OBar c k g u = ∑ j : Fin 7, if k ≤ j.val ∧ g = barCell (peer c j) then 1 else 0 := by
  unfold OBar
  rw [Finset.sum_apply, Finsupp.finset_sum_apply]
  refine Finset.sum_congr rfl fun j _ => ?_
  by_cases h : k ≤ j.val
  · rw [if_pos h, tallyAt_apply]; exact if_congr ⟨fun h' => ⟨h, h'.1⟩, fun h' => ⟨h'.2, rfl⟩⟩ rfl rfl
  · rw [if_neg h, if_neg (fun h' => h h'.1)]; rfl
theorem OSend_apply (c : Dev nD) (k : ℕ) (g : GSem nD τ sig) (u : Unit) :
    OSend c k g u = ∑ j : Fin 7, if k ≤ j.val ∧ g = recvCell (peer c j) j then N else 0 := by
  unfold OSend
  rw [Finset.sum_apply, Finsupp.finset_sum_apply]
  refine Finset.sum_congr rfl fun j _ => ?_
  by_cases h : k ≤ j.val
  · rw [if_pos h, tallyAt_apply]; exact if_congr ⟨fun h' => ⟨h, h'.1⟩, fun h' => ⟨h'.2, rfl⟩⟩ rfl rfl
  · rw [if_neg h, if_neg (fun h' => h h'.1)]; rfl

theorem OBar_pos {c : Dev nD} {k : ℕ} {g : GSem nD τ sig} {u : Unit} (h : 0 < OBar c k g u) : ∃ p, g = barCell p := by
  rw [OBar_apply] at h
  by_contra hn
  rw [Finset.sum_eq_zero fun j _ => if_neg fun h' => hn ⟨_, h'.2⟩] at h
  exact Nat.lt_irrefl 0 h
theorem OSend_pos {c : Dev nD} {k : ℕ} {g : GSem nD τ sig} {u : Unit} (h : 0 < OSend c k g u) : ∃ p j, g = recvCell p j := by
  rw [OSend_apply] at h
  by_contra hn
  rw [Finset.sum_eq_zero fun j _ => if_neg fun h' => hn ⟨_, _, h'.2⟩] at h
  exact Nat.lt_irrefl 0 h
theorem O₀_pos {c : Dev nD} {g : GSem nD τ sig} {u : Unit} (h : 0 < O₀ c g u) : (∃ p j, g = recvCell p j) ∨ ∃ p, g = barCell p := by
  unfold O₀ at h
  rw [Pi.add_apply, Finsupp.add_apply] at h
  rcases Nat.eq_zero_or_pos (OSend c 0 g u) with h0 | h0
  · rw [h0, zero_add] at h; exact Or.inr (OBar_pos h)
  · exact Or.inl (OSend_pos h0)

/-! ## Levels -/

def L (g : GSem nD τ sig) : Finset Unit := if g.1.2 = .tc then {()} else ∅
def levOf : Role → ℕ
  | .bar => 1 | .recv _ => 2 | _ => 0
/-- Barrier cells at 1, receive cells at 2, everything else at 0. -/
def lv (g : GSem nD τ sig) (_ : Unit) : ℕ := levOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]; rfl
theorem lv_recv (c : Dev nD) (j : Fin 7) (u : Unit) : lv (recvCell c j) u = 2 := by unfold lv; rw [role_recv]; rfl

theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, j, rfl⟩ | ⟨p, rfl⟩ <;> exact Finset.mem_singleton_self _)
      (fun p hp => by rw [Finset.mem_singleton.mp hp]; dsimp only [lv]; rw [hq]; exact le_refl _)
      (fun g u hg => by
        rcases O₀_pos hg with ⟨p, j, rfl⟩ | ⟨p, rfl⟩
        · rw [lv_recv]; decide
        · rw [lv_bar]; decide)
  · rw [MayWait_zero]; iintro -; iempintro

/-- At its barrier wait a device owes copies only, and receive cells lie above its barrier cell. -/
theorem mayWait_bar (c : Dev nD) :
    (levAts L lv : sProp 𝕄) ⊢ MayWait (c : Thread nD τ) (.reg barS) () (OSend c 0) :=
  MayOwe.of_cut (L := L) (lev := lv) 1 (fun p hp => by rw [Finset.mem_singleton.mp hp, L_tc]; exact Finset.mem_singleton_self _)
    (fun g u hg => by obtain ⟨p, j, rfl⟩ := OSend_pos hg; exact Finset.mem_singleton_self _)
    (fun p hp => by rw [Finset.mem_singleton.mp hp]; exact le_of_eq (lv_bar c _))
    (fun g u hg => by obtain ⟨p, j, rfl⟩ := OSend_pos hg; rw [lv_recv]; decide)

/-! ## The cells -/

/-- The kernel's own semaphores: the seven of the sends, then the seven of the receives. -/
abbrev osem : Fin 14 → SemLoc sig := fun | 0 => .dma (sendS 0) | 1 => .dma (sendS 1) | 2 => .dma (sendS 2) | 3 => .dma (sendS 3) | 4 => .dma (sendS 4) | 5 => .dma (sendS 5) | 6 => .dma (sendS 6) | 7 => .dma (recvS 0) | 8 => .dma (recvS 1) | 9 => .dma (recvS 2) | 10 => .dma (recvS 3) | 11 => .dma (recvS 4) | 12 => .dma (recvS 5) | 13 => .dma (recvS 6)
/-- All the semaphores of the exchange: the barrier, then those. -/
abbrev csem : Fin 15 → SemLoc sig := fun | 0 => .reg barS | 1 => .dma (sendS 0) | 2 => .dma (sendS 1) | 3 => .dma (sendS 2) | 4 => .dma (sendS 3) | 5 => .dma (sendS 4) | 6 => .dma (sendS 5) | 7 => .dma (sendS 6) | 8 => .dma (recvS 0) | 9 => .dma (recvS 1) | 10 => .dma (recvS 2) | 11 => .dma (recvS 3) | 12 => .dma (recvS 4) | 13 => .dma (recvS 5) | 14 => .dma (recvS 6)
abbrev kcell (ck : Dev nD × Fin 15) : GSem nD τ sig := ((ck.1 : Thread nD τ), csem ck.2)

def sIx (j : Fin 7) : Fin 15 := ⟨j.val + 1, by omega⟩
def rIx (j : Fin 7) : Fin 15 := ⟨j.val + 8, by omega⟩
theorem kcell_bar (c : Dev nD) : kcell (c, 0) = barCell c := rfl
theorem csem_s (j : Fin 7) : csem (sIx j) = .dma (sendS j) := by fin_cases j <;> rfl
theorem csem_r (j : Fin 7) : csem (rIx j) = .dma (recvS j) := by fin_cases j <;> rfl
theorem kcell_send (c : Dev nD) (j : Fin 7) : kcell (c, sIx j) = sendCell c j := by
  show ((c : Thread nD τ), csem (sIx j)) = _; rw [csem_s]
theorem kcell_recv (c : Dev nD) (j : Fin 7) : kcell (c, rIx j) = recvCell c j := by
  show ((c : Thread nD τ), csem (rIx j)) = _; rw [csem_r]

theorem csem_injective : Function.Injective (csem : Fin 15 → SemLoc sig) := by decide
theorem kcell_injective : Function.Injective (kcell : Dev nD × Fin 15 → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-! ## What the body starts from -/

/-- The invariants of all cells, and that each is at round 0. -/
def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

theorem inv_among (K : Dev nD × Fin 15 → ℕ) (ck : Dev nD × Fin 15) :
    (bigSep Finset.univ fun ck : Dev nD × Fin 15 => (cellInv ER (Rd m) (K ck) (kcell ck) : sProp 𝕄)) ⊢ cellInv ER (Rd m) (K ck) (kcell ck) :=
  bigSep_elim (Finset.mem_univ ck)
theorem reached_among (ck : Dev nD × Fin 15) :
    (bigSep Finset.univ fun ck : Dev nD × Fin 15 => (reached ER (kcell ck) 0 : sProp 𝕄)) ⊢ reached ER (kcell ck) 0 :=
  bigSep_elim (Finset.mem_univ ck)
theorem inv_at (K : Dev nD × Fin 15 → ℕ) (ck : Dev nD × Fin 15) :
    records m K ⊢ cellInv ER (Rd m) (K ck) (kcell ck) := by
  unfold records
  iintro ⟨H, -⟩
  iapply (inv_among m K ck); iexact H
theorem reached_at (K : Dev nD × Fin 15 → ℕ) (ck : Dev nD × Fin 15) :
    records m K ⊢ (reached ER (kcell ck) 0 : sProp 𝕄) := by
  unfold records
  iintro ⟨-, H⟩
  iapply (reached_among (F := F) ck); iexact H

theorem inv_bar (K : Dev nD × Fin 15 → ℕ) (c : Dev nD) : records m K ⊢ cellInv ER (Rd m) (K (c, 0)) (barCell c) := inv_at m K (c, 0)
theorem inv_send (K : Dev nD × Fin 15 → ℕ) (c : Dev nD) (j : Fin 7) : records m K ⊢ cellInv ER (Rd m) (K (c, sIx j)) (sendCell c j) := by
  rw [← kcell_send]; exact inv_at m K (c, sIx j)
theorem inv_recv (K : Dev nD × Fin 15 → ℕ) (c : Dev nD) (j : Fin 7) : records m K ⊢ cellInv ER (Rd m) (K (c, rIx j)) (recvCell c j) := by
  rw [← kcell_recv]; exact inv_at m K (c, rIx j)
theorem reached_bar (K : Dev nD × Fin 15 → ℕ) (c : Dev nD) : records m K ⊢ reached ER (barCell c) 0 := reached_at m K (c, 0)
theorem reached_send (K : Dev nD × Fin 15 → ℕ) (c : Dev nD) (j : Fin 7) : records m K ⊢ reached ER (sendCell c j) 0 := by
  rw [← kcell_send]; exact reached_at m K (c, sIx j)
theorem reached_recv (K : Dev nD × Fin 15 → ℕ) (c : Dev nD) (j : Fin 7) : records m K ⊢ reached ER (recvCell c j) 0 := by
  rw [← kcell_recv]; exact reached_at m K (c, rIx j)

/-- What a device owes, whatever it has waited on. -/
def Ow (c : Dev nD) (O : CellTallies nD τ sig Unit) : sProp 𝕄 := iprop(∃ W, owes (c : Thread nD τ) O W)

/-- What it takes to give signal `j`: its duty token. -/
def sigTok (c : Dev nD) (j : Fin 7) : sProp 𝕄 := dutyTok ER (barCell (peer c j)) 0 j.rev
/-- What it takes to start copy `j`: the duty tokens of its two ends. -/
def copyTok (c : Dev nD) (j : Fin 7) : sProp 𝕄 := iprop(dutyTok ER (sendCell c j) 0 0 ∗ dutyTok ER (recvCell (peer c j) j) 0 0)
/-- What it takes to wait on a cell of the device. -/
def barTok (c : Dev nD) : sProp 𝕄 := iprop(atPos ER (barCell c) 0 ∅ 0 ∗ cred (tallyAt (barCell c) () 7))
def recvTok (c : Dev nD) (j : Fin 7) : sProp 𝕄 := iprop(atPos ER (recvCell c j) 0 ∅ 0 ∗ cred (tallyAt (recvCell c j) () N))
def sendTok (c : Dev nD) (j : Fin 7) : sProp 𝕄 := iprop(atPos ER (sendCell c j) 0 ∅ 0 ∗ cred (tallyAt (sendCell c j) () N))

end Cert.Attn

end
-- ==== Proof.Steps.lean ====
/-
# The effects of the kernel, one rule each

A signal, the barrier wait, a copy, the wait for a landing, the wait for a departure, a tile read from a filled slot.
-/
module

public import proofs.«01_k».proof.Proof.Sched

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem step_signal {α : Type} {Q : α → sProp 𝕄} {k : PUnit → Prog (TpuEff nD τ sig (Elt F) Λ₀ .tc) α} (c n : Dev nD) (j : Fin 7) (hn : n = peer c j) (k' : ℕ) (hk' : 1 = k') (O : CellTallies nD τ sig Unit)
    (f : Buf (Elt F) ((c : Thread nD τ).loc cc0_scratch0)) :
    iprop(records m K ∗ Ow c (O + OBar c j.val) ∗ sigTok c j ∗ slotPts c j.rev.succ fullShare f)
      ⊢ iprop((Ow c (O + OBar c (j.val + 1)) -∗ wpc c (k ⟨⟩) Q)
          -∗ wpc c (.op (.semSignal (n : Thread nD τ) barS k') k) Q) := by
  subst hn hk'
  unfold Ow sigTok
  have hd : j.rev ∈ (Rd m).duties (barCell (peer c j)) 0 := by rw [duties_bar]; exact Finset.mem_univ _
  have ha : (Rd m).amount (barCell (peer c j)) 0 j.rev = 1 := amount_bar m (peer c j) j.rev
  have hO : O + OBar c j.val = (O + OBar c (j.val + 1)) + tallyAt (barCell (peer c j)) () 1 := OBar_peel c j O
  iintro ⟨#HR, ⟨%W, HO⟩, Ht, Hs⟩ Hk
  iapply (Rounds.wp_signal 𝒱₀ ER (Rd m) (c : Thread nD τ) none (dst := (peer c j : Thread nD τ)) (κ := K (peer c j, 0))
      (d := j.rev) hd (ha.trans (by decide)) () (O + OBar c (j.val + 1)) hO)
    $$ [HO Ht Hs]
  · isplitr; · iapply (inv_bar m K (peer c j)); iexact HR
    isplitl [HO]; · iexact HO
    isplitl [Ht]; · iexact Ht
    isplitl [Hs]
    · rw [payload_bar]; unfold barPay; rw [peer_rev]
      iexists f; iexact Hs
    iapply (reached_bar m K (peer c j)); iexact HR
  iintro HO
  iapply Hk
  iexists W; iexact HO

theorem step_barwait {α : Type} {Q : α → sProp 𝕄} {k : PUnit → Prog (TpuEff nD τ sig (Elt F) Λ₀ .tc) α} (c : Dev nD) (k' : ℕ) (hk' : 7 = k') :
    iprop(records m K ∗ levAts L lv ∗ Ow c (OSend c 0 + OBar c 7) ∗ barTok c)
      ⊢ iprop(((Ow c (OSend c 0) ∗ atPos ER (barCell c) 1 ∅ 0
            ∗ barPay c 0 ∗ barPay c 1 ∗ barPay c 2 ∗ barPay c 3 ∗ barPay c 4 ∗ barPay c 5 ∗ barPay c 6) -∗ wpc c (k ⟨⟩) Q)
          -∗ wpc c (.op (.semWait barS k') k) Q) := by
  subst hk'
  unfold Ow barTok
  rw [OBar_end, add_zero]
  have he : 0 + 7 = (Rd m).expect (barCell c) 0 := by rw [expect_bar]
  iintro ⟨#HR, #Hlev, ⟨%W, HO⟩, Hat, Hc⟩ Hk
  iapply (Rounds.wp_wait_rest_token 𝒱₀ ER (Rd m) (c : Thread nD τ) none (κ := K (c, 0))
      (wpE_semWait_eq 𝒱₀ (c : Thread nD τ) none Set.univ) (Set.mem_univ _) () (O := OSend c 0) (W := W) (R := 0) (m := 0) (T := ∅)
      he) $$ [Hc HO Hat]
  · isplitr; · iapply (inv_bar m K c); iexact HR
    isplitl [Hc]; · iexact Hc
    isplitl [HO]; · iexact HO
    isplitr; · iapply (mayWait_bar (F := F) c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The library's rule for an addressed copy, at this kernel's cells. -/
theorem copy_rule (c : Dev nD) (j : Fin 7) {hsc : (slotM j.succ : Memref sig (Dev.tc (peer c j) : Thread nD τ).2.kind .vmem _ _).view.ref.isScScratch = false}
    {hsrc : (slotM 0).view.WordExact} {hdst : (slotM j.succ : Memref sig (Dev.tc (peer c j) : Thread nD τ).2.kind .vmem _ _).view.WordExact}
    {hsem : DmaTarget.Typed .vmem (.dma (recvS j)) (.remote (Dev.tc (peer c j) : Thread nD τ) (slotM j.succ) (.dma (sendS j)) hsc)}
    {α : Type} {Q : α → sProp 𝕄} {k : PUnit → Prog (TpuEff nD τ sig (Elt F) Λ₀ .tc) α}
    (fd : Buf (Elt F) ((peer c j : Thread nD τ).loc cc0_scratch0)) (W : Waits sig Unit) :
    iprop(cellInv ER (Rd m) (K (c, sIx j)) (sendCell c j) ∗ cellInv ER (Rd m) (K (peer c j, rIx j)) (recvCell (peer c j) j)
        ∗ slotPts c 0 (sendShare j) (KV m c) ∗ slotPts (peer c j) j.succ fullShare fd ∗ owes (c : Thread nD τ) (OSend c j.val) W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) (OSend c (j.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc (peer c j) : Thread nD τ) (slotM j.succ) (.dma (sendS j)) hsc) (.dma (recvS j)) hsrc hdst hsem) k) Q) := by
  unfold slotPts
  have hr : τ.routes (c : Thread nD τ) (peer c j : Thread nD τ) = true := by routes
  have h1 : (slotM j.succ : Memref sig (Dev.tc (peer c j) : Thread nD τ).2.kind .vmem _ _).view.amount (.dma (recvS j)) = N := N_slot j.succ
  have h2 : (0:Fin 7) ∈ (Rd m).duties (sendCell c j) 0 := (by rw [duties_send]; exact Finset.mem_singleton_self _)
  have h3 : (0:Fin 7) ∈ (Rd m).duties (recvCell (peer c j) j) 0 := (by rw [duties_recv]; exact Finset.mem_singleton_self _)
  refine Rounds.wp_send_pointsTo 𝒱₀ ER (Rd m) (c : Thread nD τ) none (κ₁ := K (c, sIx j)) (κ₂ := K (peer c j, rIx j))
    (r₁ := 0) (r₂ := 0) (d₁ := 0) (d₂ := 0) (fd := fd) h2 h3
    () () N h1 ?_ ?_ (OSend c (j.val + 1)) ?_ (W := W)
    ?_ ?_ hr
  · exact amount_send m c j 0
  · exact amount_recv m (peer c j) j 0
  · exact OSend_peel c j
  · rw [payload_send]; unfold sendPay slotPts; exact BI.Entails.refl _
  · rw [payload_recv]; unfold recvPay; exact Entails.of_eq (landed m c j fd)

theorem step_copy {α : Type} {Q : α → sProp 𝕄} {k : PUnit → Prog (TpuEff nD τ sig (Elt F) Λ₀ .tc) α} (c n : Dev nD) (j : Fin 7) (hn : n = peer c j) {hsc : (slotM j.succ : Memref sig (Dev.tc n : Thread nD τ).2.kind .vmem _ _).view.ref.isScScratch = false}
    {hsrc : (slotM 0).view.WordExact} {hdst : (slotM j.succ : Memref sig (Dev.tc n : Thread nD τ).2.kind .vmem _ _).view.WordExact}
    {hsem : DmaTarget.Typed .vmem (.dma (recvS j)) (.remote (Dev.tc n : Thread nD τ) (slotM j.succ) (.dma (sendS j)) hsc)}
    (fd : Buf (Elt F) ((peer c j : Thread nD τ).loc cc0_scratch0)) :
    iprop(records m K ∗ slotPts c 0 (sendShare j) (KV m c) ∗ slotPts (peer c j) j.succ fullShare fd ∗ Ow c (OSend c j.val) ∗ copyTok c j)
      ⊢ iprop(((cred (tallyAt (sendCell c j) () N) ∗ Ow c (OSend c (j.val + 1))) -∗ wpc c (k ⟨⟩) Q)
          -∗ wpc c (.op (.enqueueDma (slotM 0) (.remote (Dev.tc n : Thread nD τ) (slotM j.succ) (.dma (sendS j)) hsc) (.dma (recvS j)) hsrc hdst hsem) k) Q) := by
  subst hn
  unfold Ow copyTok
  iintro ⟨#HR, Hs, Hd, ⟨%W, HO⟩, Ht1, Ht2⟩ Hk
  iapply (copy_rule m K c j fd W) $$ [Hs Hd HO Ht1 Ht2]
  · isplitr; · iapply (inv_send m K c j); iexact HR
    isplitr; · iapply (inv_recv m K (peer c j) j); iexact HR
    isplitl [Hs]; · iexact Hs
    isplitl [Hd]; · iexact Hd
    isplitl [HO]; · iexact HO
    isplitl [Ht1]; · iexact Ht1
    isplitr; · iapply (reached_send m K c j); iexact HR
    isplitl [Ht2]; · iexact Ht2
    iapply (reached_recv m K (peer c j) j); iexact HR
  iintro ⟨Hc, HO⟩
  iapply Hk
  isplitl [Hc]; · iexact Hc
  iexists W; iexact HO

theorem step_recv {α : Type} {Q : α → sProp 𝕄} {k : PUnit → Prog (TpuEff nD τ sig (Elt F) Λ₀ .tc) α} (c : Dev nD) (j : Fin 7) (d : Fin 8) (hj : j.succ = d) {hs : (slotM 0).view.WordExact} {hd : (slotM j.succ).view.WordExact} :
    iprop(records m K ∗ Ow c 0 ∗ recvTok c j)
      ⊢ iprop(((Ow c 0 ∗ atPos ER (recvCell c j) 1 ∅ 0 ∗ slotPts c d fullShare (KV m c)) -∗ wpc c (k ⟨⟩) Q)
          -∗ wpc c (.op (.waitDma2 (recvS j) (slotM 0) (slotM j.succ) hs hd) k) Q) := by
  subst hj
  unfold Ow recvTok
  have he : 0 + N = (Rd m).expect (recvCell c j) 0 := by rw [Nat.zero_add, expect_recv]
  iintro ⟨#HR, ⟨%W, HO⟩, Hat, Hc⟩ Hk
  iapply (Rounds.wp_wait_rest_token 𝒱₀ ER (Rd m) (c : Thread nD τ) none (κ := K (c, rIx j))
      (wpE_waitDma2_eq 𝒱₀ (c : Thread nD τ) none Set.univ (hsrc := hs) (hdst := hd)) (Set.mem_univ _) () (O := 0) (W := W) (R := 0) (m := 0) (T := ∅)
      he) $$ [Hc HO Hat]
  · isplitr; · iapply (inv_recv m K c j); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  iapply Hk
  isplitl [HO]; · iexists _; iexact HO
  isplitl [Hat]; · iexact Hat
  unfold recvPay; iexact Hp

theorem step_sent {α : Type} {Q : α → sProp 𝕄} {k : PUnit → Prog (TpuEff nD τ sig (Elt F) Λ₀ .tc) α} (c : Dev nD) (j : Fin 7) {hs : (slotM j.succ).view.WordExact} {hd : (slotM 0).view.WordExact} :
    iprop(records m K ∗ Ow c 0 ∗ sendTok c j)
      ⊢ iprop(((Ow c 0 ∗ atPos ER (sendCell c j) 1 ∅ 0 ∗ slotPts c 0 (sendShare j) (KV m c)) -∗ wpc c (k ⟨⟩) Q)
          -∗ wpc c (.op (.waitDma2 (sendS j) (slotM j.succ) (slotM 0) hs hd) k) Q) := by
  unfold Ow sendTok
  have he : 0 + N = (Rd m).expect (sendCell c j) 0 := by rw [Nat.zero_add, expect_send]
  iintro ⟨#HR, ⟨%W, HO⟩, Hat, Hc⟩ Hk
  iapply (Rounds.wp_wait_rest_token 𝒱₀ ER (Rd m) (c : Thread nD τ) none (κ := K (c, sIx j))
      (wpE_waitDma2_eq 𝒱₀ (c : Thread nD τ) none Set.univ (hsrc := hs) (hdst := hd)) (Set.mem_univ _) () (O := 0) (W := W) (R := 0) (m := 0) (T := ∅)
      he) $$ [Hc HO Hat]
  · isplitr; · iapply (inv_send m K c j); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexists _; iexact HO
  isplitl [Hat]; · iexact Hat
  unfold sendPay; iexact Hp

/-- A cell whose one round is over closes: its counter at zero is the core's again. -/
theorem close_bar (c : Dev nD) : iprop(records m K ∗ atPos ER (barCell c) 1 ∅ 0) ⊢ (|={Set.univ}=> semVal (barCell c) 0 : sProp 𝕄) := by
  iintro ⟨#HR, Hat⟩
  iapply (Rounds.cell_close ER (Rd m) (Set.mem_univ (K (c, 0))) (fun h => h) (R := 1) (duties_later m (barCell c)))
  isplitr; · iapply (inv_bar m K c); iexact HR
  iexact Hat
theorem close_send (c : Dev nD) (j : Fin 7) : iprop(records m K ∗ atPos ER (sendCell c j) 1 ∅ 0) ⊢ (|={Set.univ}=> semVal (sendCell c j) 0 : sProp 𝕄) := by
  iintro ⟨#HR, Hat⟩
  iapply (Rounds.cell_close ER (Rd m) (Set.mem_univ (K (c, sIx j))) (fun h => h) (R := 1) (duties_later m (sendCell c j)))
  isplitr; · iapply (inv_send m K c j); iexact HR
  iexact Hat
theorem close_recv (c : Dev nD) (j : Fin 7) : iprop(records m K ∗ atPos ER (recvCell c j) 1 ∅ 0) ⊢ (|={Set.univ}=> semVal (recvCell c j) 0 : sProp 𝕄) := by
  iintro ⟨#HR, Hat⟩
  iapply (Rounds.cell_close ER (Rd m) (Set.mem_univ (K (c, rIx j))) (fun h => h) (R := 1) (duties_later m (recvCell c j)))
  isplitr; · iapply (inv_recv m K c j); iexact HR
  iexact Hat

/-- A tile read from a filled slot. -/
theorem step_tile {α : Type} {Q : α → sProp 𝕄} (c : Dev nD) (d : Fin 8) (kk b : Fin 2) (q : PosShare TreeShare) {hl : kvM.view.LoadsAt (tileR d kk b).toLoadRect}
    {k : (S1x1x1x256x256.Idx → Elt F .i8) → Prog (TpuEff nD τ sig (Elt F) Λ₀ .tc) α} :
    slotPts c d q (KV m c)
      ⊢ iprop((slotPts c d q (KV m c) -∗ wpc c (k (quant m (src c d) kk b)) Q)
          -∗ wpc c (.op (.load kvM (tileR d kk b).toLoadRect hl) k) Q) := by
  rw [← kv_read m c d kk b]
  unfold slotPts
  exact wp_load 𝒱₀ (c : Thread nD τ) none Set.univ (m := kvM) (tile_sub d kk b)

/-- A tile read from a slot whose contents do not matter. -/
theorem step_peek {α : Type} {Q : α → sProp 𝕄} (c : Dev nD) (d : Fin 8) (kk b : Fin 2) (q : PosShare TreeShare) (f : Buf (Elt F) ((c : Thread nD τ).loc cc0_scratch0))
    {hl : kvM.view.LoadsAt (tileR d kk b).toLoadRect}
    {k : (S1x1x1x256x256.Idx → Elt F .i8) → Prog (TpuEff nD τ sig (Elt F) Λ₀ .tc) α} :
    slotPts c d q f
      ⊢ iprop((slotPts c d q f -∗ wpc c (k (kvM.view.readAt (Elt F) (tileR d kk b).toLoadRect f)) Q)
          -∗ wpc c (.op (.load kvM (tileR d kk b).toLoadRect hl) k) Q) := by
  unfold slotPts
  exact wp_load 𝒱₀ (c : Thread nD τ) none Set.univ (m := kvM) (tile_sub d kk b)

/-- A tile stored into a slot. -/
theorem step_put {α : Type} {Q : α → sProp 𝕄} {k : PUnit → Prog (TpuEff nD τ sig (Elt F) Λ₀ .tc) α} (c : Dev nD) (d : Fin 8) (kk b : Fin 2) (f : Buf (Elt F) ((c : Thread nD τ).loc cc0_scratch0)) {w : Vec F S1x1x1x256x256 .i8}
    {hx : (kvM.access (tileR d kk b) : View sig .tc _ _ _).Stores Finset.univ} {hm : (Finset.univ : Finset (tileR d kk b).shape.Idx) = Finset.univ ∨ ∀ a, (tileR d kk b).stride a = 1} :
    slotPts c d fullShare f
      ⊢ iprop((slotPts c d fullShare ((kvM.access (tileR d kk b) : View sig .tc _ _ _).write (Elt F) f w Finset.univ) -∗ wpc c (k ⟨⟩) Q)
          -∗ wpc c (.op (.store kvM (tileR d kk b) w Finset.univ hx hm) k) Q) := by
  unfold slotPts
  exact wp_store 𝒱₀ (c : Thread nD τ) none Set.univ (m := kvM) (r := tileR d kk b) (Mk := Finset.univ) (tile_access_sub d kk b)

end Cert.Attn

end
-- ==== Proof.Inputs.lean ====
/-
# The staged inputs, read

The five input blocks a device holds throughout, the reads of them, and the two stores of the result.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The five staged inputs of device `c`. -/
def Ins (c : Dev nD) : sProp 𝕄 :=
  iprop((((c : Thread nD τ).loc cc0_stg0_0) ↦{fullShare} stg0 m c) ∗ (((c : Thread nD τ).loc cc0_stg1_0) ↦{fullShare} stg1 m c)
    ∗ (((c : Thread nD τ).loc cc0_stg2_0) ↦{fullShare} stg2 m c) ∗ (((c : Thread nD τ).loc cc0_stg3_0) ↦{fullShare} stg3 m c)
    ∗ (((c : Thread nD τ).loc cc0_stg4_0) ↦{fullShare} stg4 m c))

def ldX0 (c : Dev nD) : Vec F S1x256x512 .bf16 :=
  xM.view.readAt (Elt F) (Rect.unit (s := S2x256x512) ![0, 0, 0] S1x256x512.size inb_S2x256x512_S1x256x512_0_0_0).toLoadRect (stg0 m c)
def ldX1 (c : Dev nD) : Vec F S1x256x512 .bf16 :=
  xM.view.readAt (Elt F) (Rect.unit (s := S2x256x512) ![1, 0, 0] S1x256x512.size inb_S2x256x512_S1x256x512_1_0_0).toLoadRect (stg0 m c)
def ldWq (c : Dev nD) : Vec F S512x256 .bf16 :=
  wqM.view.readAt (Elt F) (Rect.unit (s := S512x256) ![0, 0] S512x256.size inb_S512x256_S512x256_0_0).toLoadRect (stg1 m c)
def ldWo (c : Dev nD) : Vec F S256x512 .bf16 :=
  woM.view.readAt (Elt F) (Rect.unit (s := S256x512) ![0, 0] S256x512.size inb_S256x512_S256x512_0_0).toLoadRect (stg4 m c)

theorem step_ld0 {α : Type} {Q : α → sProp 𝕄} (c : Dev nD) {r : LoadRect S2x256x512} {hl : xM.view.LoadsAt r}
    {k : (r.shape.Idx → Elt F .bf16) → Prog (TpuEff nD τ sig (Elt F) Λ₀ .tc) α} :
    Ins m c ⊢ iprop((Ins m c -∗ wpc c (k (xM.view.readAt (Elt F) r (stg0 m c))) Q) -∗ wpc c (.op (.load xM r hl) k) Q) := by
  unfold Ins
  iintro ⟨H, H1, H2, H3, H4⟩ Hk
  iapply (wp_load 𝒱₀ (c : Thread nD τ) none Set.univ (m := xM) (Finset.subset_univ _)) $$ H
  iintro H
  iapply Hk
  isplitl [H]; · iexact H
  isplitl [H1]; · iexact H1
  isplitl [H2]; · iexact H2
  isplitl [H3]; · iexact H3
  iexact H4
theorem step_ld1 {α : Type} {Q : α → sProp 𝕄} (c : Dev nD) {r : LoadRect S512x256} {hl : wqM.view.LoadsAt r}
    {k : (r.shape.Idx → Elt F .bf16) → Prog (TpuEff nD τ sig (Elt F) Λ₀ .tc) α} :
    Ins m c ⊢ iprop((Ins m c -∗ wpc c (k (wqM.view.readAt (Elt F) r (stg1 m c))) Q) -∗ wpc c (.op (.load wqM r hl) k) Q) := by
  unfold Ins
  iintro ⟨H0, H, H2, H3, H4⟩ Hk
  iapply (wp_load 𝒱₀ (c : Thread nD τ) none Set.univ (m := wqM) (Finset.subset_univ _)) $$ H
  iintro H
  iapply Hk
  isplitl [H0]; · iexact H0
  isplitl [H]; · iexact H
  isplitl [H2]; · iexact H2
  isplitl [H3]; · iexact H3
  iexact H4
theorem step_ld2 {α : Type} {Q : α → sProp 𝕄} (c : Dev nD) {r : LoadRect S2x256x4x64} {hl : kM.view.LoadsAt r}
    {k : (r.shape.Idx → Elt F .bf16) → Prog (TpuEff nD τ sig (Elt F) Λ₀ .tc) α} :
    Ins m c ⊢ iprop((Ins m c -∗ wpc c (k (kM.view.readAt (Elt F) r (stg2 m c))) Q) -∗ wpc c (.op (.load kM r hl) k) Q) := by
  unfold Ins
  iintro ⟨H0, H1, H, H3, H4⟩ Hk
  iapply (wp_load 𝒱₀ (c : Thread nD τ) none Set.univ (m := kM) (Finset.subset_univ _)) $$ H
  iintro H
  iapply Hk
  isplitl [H0]; · iexact H0
  isplitl [H1]; · iexact H1
  isplitl [H]; · iexact H
  isplitl [H3]; · iexact H3
  iexact H4
theorem step_ld3 {α : Type} {Q : α → sProp 𝕄} (c : Dev nD) {r : LoadRect S2x256x4x64} {hl : vM.view.LoadsAt r}
    {k : (r.shape.Idx → Elt F .bf16) → Prog (TpuEff nD τ sig (Elt F) Λ₀ .tc) α} :
    Ins m c ⊢ iprop((Ins m c -∗ wpc c (k (vM.view.readAt (Elt F) r (stg3 m c))) Q) -∗ wpc c (.op (.load vM r hl) k) Q) := by
  unfold Ins
  iintro ⟨H0, H1, H2, H, H4⟩ Hk
  iapply (wp_load 𝒱₀ (c : Thread nD τ) none Set.univ (m := vM) (Finset.subset_univ _)) $$ H
  iintro H
  iapply Hk
  isplitl [H0]; · iexact H0
  isplitl [H1]; · iexact H1
  isplitl [H2]; · iexact H2
  isplitl [H]; · iexact H
  iexact H4
theorem step_ld4 {α : Type} {Q : α → sProp 𝕄} (c : Dev nD) {r : LoadRect S256x512} {hl : woM.view.LoadsAt r}
    {k : (r.shape.Idx → Elt F .bf16) → Prog (TpuEff nD τ sig (Elt F) Λ₀ .tc) α} :
    Ins m c ⊢ iprop((Ins m c -∗ wpc c (k (woM.view.readAt (Elt F) r (stg4 m c))) Q) -∗ wpc c (.op (.load woM r hl) k) Q) := by
  unfold Ins
  iintro ⟨H0, H1, H2, H3, H⟩ Hk
  iapply (wp_load 𝒱₀ (c : Thread nD τ) none Set.univ (m := woM) (Finset.subset_univ _)) $$ H
  iintro H
  iapply Hk
  isplitl [H0]; · iexact H0
  isplitl [H1]; · iexact H1
  isplitl [H2]; · iexact H2
  isplitl [H3]; · iexact H3
  iexact H

/-- The block of the result under construction. -/
def outPts (c : Dev nD) (g : (cc0_stg5_0 : Ref sig .tc).ty.Contents (Elt F)) : sProp 𝕄 :=
  (((c : Thread nD τ).loc cc0_stg5_0) ↦{fullShare} g)

theorem step_ldO {α : Type} {Q : α → sProp 𝕄} (c : Dev nD) {r : LoadRect S2x256x512} {hl : outM.view.LoadsAt r} (g : (cc0_stg5_0 : Ref sig .tc).ty.Contents (Elt F))
    {k : (r.shape.Idx → Elt F .f32) → Prog (TpuEff nD τ sig (Elt F) Λ₀ .tc) α} :
    outPts c g ⊢ iprop((outPts c g -∗ wpc c (k (outM.view.readAt (Elt F) r g)) Q) -∗ wpc c (.op (.load outM r hl) k) Q) := by
  unfold outPts
  exact wp_load 𝒱₀ (c : Thread nD τ) none Set.univ (m := outM) (Finset.subset_univ _)
theorem step_stO {α : Type} {Q : α → sProp 𝕄} (c : Dev nD) {r : Rect S2x256x512} (g : (cc0_stg5_0 : Ref sig .tc).ty.Contents (Elt F)) {w : r.shape.Idx → Elt F .f32}
    {hx : (outM.access r : View sig .tc _ _ _).Stores Finset.univ} {hm : (Finset.univ : Finset r.shape.Idx) = Finset.univ ∨ ∀ a, r.stride a = 1}
    {k : PUnit → Prog (TpuEff nD τ sig (Elt F) Λ₀ .tc) α} :
    outPts c g ⊢ iprop((outPts c ((outM.access r : View sig .tc _ _ _).write (Elt F) g w Finset.univ) -∗ wpc c (k ⟨⟩) Q)
      -∗ wpc c (.op (.store outM r w Finset.univ hx hm) k) Q) := by
  unfold outPts
  exact wp_store 𝒱₀ (c : Thread nD τ) none Set.univ (m := outM) (r := r) (Mk := Finset.univ) (Finset.subset_univ _)

end Cert.Attn

end
-- ==== Proof.Values.lean ====
/-
# The values the body computes

One definition for each value a piece of the body hands on, in program order, from the staged inputs and the quantised tiles.
-/
module

public import proofs.«01_k».proof.Proof.Inputs

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def w53 (m : (ℓ : Loc nD τ sig) → Buf (Elt F) ℓ) (c : Dev nD) : FVec F S256x256 .bf16 :=
  k0_pay2 (ldV0 m c)
def w55 (m : (ℓ : Loc nD τ sig) → Buf (Elt F) ℓ) (c : Dev nD) : FVec F S256x256 .bf16 :=
  k0_pay3 (F := F)
def w88 (m : (ℓ : Loc nD τ sig) → Buf (Elt F) ℓ) (c : Dev nD) : FVec F S256x256 .bf16 :=
  k0_pay6 (ldV1 m c)
def wcst_67 (m : (ℓ : Loc nD τ sig) → Buf (Elt F) ℓ) (c : Dev nD) : F .bf16 :=
  (Scalar.ofBits .bf16 0x41CB#16)
def w180 (m : (ℓ : Loc nD τ sig) → Buf (Elt F) ℓ) (c : Dev nD) : IVec S256x256 32 :=
  (iota .tc S256x256 32 [0] iota_S256x256_d0_w32)
def wc64_i32 (m : (ℓ : Loc nD τ sig) → Buf (Elt F) ℓ) (c : Dev nD) : BitVec 32 :=
  64#32
def w182 (m : (ℓ : Loc nD τ sig) → Buf (Elt F) ℓ) (c : Dev nD) : IVec S256x256 32 :=
  k0_pay8
def w189 (m : (ℓ : Loc nD τ sig) → Buf (Elt F) ℓ) (c : Dev nD) : IVec S256x256 32 :=
  k0_pay9
def w195 (m : (ℓ : Loc nD τ sig) → Buf (Elt F) ℓ) (c : Dev nD) : IVec S256x256 32 :=
  k0_pay10
def w230 (m : (ℓ : Loc nD τ sig) → Buf (Elt F) ℓ) (c : Dev nD) : IVec S256x256 1 :=
  k0_pay11 (w180 m c) (wc64_i32 m c) (w182 m c) (w189 m c) (w195 m c)
def w234 (m : (ℓ : Loc nD τ sig) → Buf (Elt F) ℓ) (c : Dev nD) : FVec F S512x256 .bf16 :=
  k0_pay12 (ldWq m c)
def w238 (m : (ℓ : Loc nD τ sig) → Buf (Elt F) ℓ) (c : Dev nD) : FVec F S256x512 .bf16 :=
  k0_pay13 (ldWo m c)
def w242 (m : (ℓ : Loc nD τ sig) → Buf (Elt F) ℓ) (c : Dev nD) : FVec F S256x256 .bf16 :=
  k0_pay14 (w234 m c) (ldX0 m c)
def w246 (m : (ℓ : Loc nD τ sig) → Buf (Elt F) ℓ) (c : Dev nD) : FVec F S256x256 .bf16 :=
  k0_pay15 (w234 m c) (ldX1 m c)
def w249 (m : (ℓ : Loc nD τ sig) → Buf (Elt F) ℓ) (c : Dev nD) : FVec F S256x256 .bf16 :=
  k0_pay16 (quant m (src c 0) 0 0)
def w252 (m : (ℓ : Loc nD τ sig) → Buf (Elt F) ℓ) (c : Dev nD) : FVec F S256x256 .bf16 :=
  k0_pay17 (quant m (src c 0) 1 0)
def w260 (m : (ℓ : Loc nD τ sig) → Buf (Elt F) ℓ) (c : Dev nD) : FVec F S256x1 .f32 :=
  k0_pay19 (w230 m c) (w234 m c) (ldX0 m c) (quant m (src c 0) 0 0)
def w263 (m : (ℓ : Loc nD τ sig) → Buf (Elt F) ℓ) (c : Dev nD) : FVec F S256x64 .f32 :=
  k0_pay20 (w230 m c) (w234 m c) (ldX0 m c) (quant m (src c 0) 0 0) (quant m (src c 0) 1 0)
def w271 (m : (ℓ : Loc nD τ sig) → Buf (Elt F) ℓ) (c : Dev nD) : FVec F S256x1 .f32 :=
  k0_pay22 (w230 m c) (w234 m c) (ldX0 m c) (quant m (src c 0) 0 0)
def w274 (m : (ℓ : Loc nD τ sig) → Buf (Elt F) ℓ) (c : Dev nD) : FVec F S256x64 .f32 :=
  k0_pay23 (w230 m c) (w234 m c) (ldX0 m c) (quant m (src c 0) 0 0) (quant m (src c 0) 1 0)
def w282 (m : (ℓ : Loc nD τ sig) → Buf (Elt F) ℓ) (c : Dev nD) : FVec F S256x1 .f32 :=
  k0_pay25 (w230 m c) (w242 m c) (w249 m c)
def w285 (m : (ℓ : Loc nD τ sig) → Buf (Elt F) ℓ) (c : Dev nD) : FVec F S256x64 .f32 :=
  k0_pay26 (w230 m c) (w242 m c) (w249 m c) (w252 m c)
def w293 (m : (ℓ : Loc nD τ sig) → Buf (Elt F) ℓ) (c : Dev nD) : FVec F S256x1 .f32 :=
  k0_pay28 (w230 m c) (w242 m c) (w249 m c)
def w296 (m : (ℓ : Loc nD τ sig) → Buf (Elt F) ℓ) (c : Dev nD) : FVec F S256x64 .f32 :=
  k0_pay29 (w230 m c) (w242 m c) (w249 m c) (w252 m c)
def w299 (m : (ℓ : Loc nD τ sig) → Buf (Elt F) ℓ) (c : Dev nD) : FVec F S256x256 .bf16 :=
  k0_pay30 (quant m (src c 0) 0 1)
def w302 (m : (ℓ : Loc nD τ sig) → Buf (Elt F) ℓ) (c : Dev nD) : FVec F S256x256 .bf16 :=
  k0_pay31 (quant m (src c 0) 1 1)
def w310 (m : (ℓ : Loc nD τ sig) → Buf (Elt F) ℓ) (c : Dev nD) : FVec F S256x1 .f32 :=
  k0_pay33 (w230 m c) (w246 m c) (quant m (src c 0) 0 1)
def w311 (m : (ℓ : Loc nD τ sig) → Buf (Elt F) ℓ) (c : Dev nD) : FVec F S256x256 .bf16 :=
  k0_pay34 (w230 m c) (w246 m c) (quant m (src c 0) 0 1)
def w312 (m : (ℓ : Loc nD τ sig) → Buf (Elt F) ℓ) (c : Dev nD) : FVec F S256x64 .bf16 :=
  k0_pay35 (quant m (src c 0) 1 1)
def wcst_252 (m : (ℓ : Loc nD τ sig) → Buf (Elt F) ℓ) (c : Dev nD) : FVec F S256x64 .f32 :=
  (constant S256x64 .f32 0x00000000#32)
def w313 (m : (ℓ : Loc nD τ sig) → Buf (Elt F) ℓ) (c : Dev nD) : FVec F S256x64 .f32 :=
  k0_pay36 (w311 m c) (w312 m c) (wcst_252 m c)
def w321 (m : (ℓ : Loc nD τ sig) → Buf (Elt F) ℓ) (c : Dev nD) : FVec F S256x1 .f32 :=
  k0_pay38 (w230 m c) (w246 m c) (w299 m c)
def w324 (m : (ℓ : Loc nD τ sig) → Buf (Elt F) ℓ) (c : Dev nD) : FVec F S256x64 .f32 :=
  k0_pay39 (w230 m c) (w246 m c) (w299 m c) (w302 m c)
def w332 (m : (ℓ : Loc nD τ sig) → Buf (Elt F) ℓ) (c : Dev nD) : FVec F S256x1 .f32 :=
  k0_pay41 (w230 m c) (w246 m c) (w299 m c)
def w335 (m : (ℓ : Loc nD τ sig) → Buf (Elt F) ℓ) (c : Dev nD) : FVec F S256x64 .f32 :=
  k0_pay42 (w230 m c) (w246 m c) (w299 m c) (w302 m c)
def w343 (m : (ℓ : Loc nD τ sig) → Buf (Elt F) ℓ) (c : Dev nD) : FVec F S256x1 .f32 :=
  k0_pay44 (w230 m c) (w246 m c) (w299 m c)
def w346 (m : (ℓ : Loc nD τ sig) → Buf (Elt F) ℓ) (c : Dev nD) : FVec F S256x64 .f32 :=
  k0_pay45 (w230 m c) (w246 m c) (w299 m c) (w302 m c)
def w357 (m : (ℓ : Loc nD τ sig) → Buf (Elt F) ℓ) (c : Dev nD) : FVec F S256x256 .bf16 :=
  k0_pay46 (quant m (src c 1) 0 0)
def w360 (m : (ℓ : Loc nD τ sig) → Buf (Elt F) ℓ) (c : Dev nD) : FVec F S256x256 .bf16 :=
  k0_pay47 (quant m (src c 1) 1 0)
def w372 (m : (ℓ : Loc nD τ sig) → Buf (Elt F) ℓ) (c : Dev nD) : FVec F S256x64 .f32 :=
  k0_pay49 (w230 m c) (w242 m c) (w263 m c) (quant m (src c 1) 0 0) (quant m (src c 1) 1 0)
def w373 (m : (ℓ : Loc nD τ sig) → Buf (Elt F) ℓ) (c : Dev nD) : FVec F S256x1 .f32 :=
  k0_pay50 (w230 m c) (w242 m c) (w260 m c) (quant m (src c 1) 0 0)
def w385 (m : (ℓ : Loc nD τ sig) → Buf (Elt F) ℓ) (c : Dev nD) : FVec F S256x64 .f32 :=
  k0_pay52 (w230 m c) (w242 m c) (w274 m c) (quant m (src c 1) 0 0) (quant m (src c 1) 1 0)
def w386 (m : (ℓ : Loc nD τ sig) → Buf (Elt F) ℓ) (c : Dev nD) : FVec F S256x1 .f32 :=
  k0_pay53 (w230 m c) (w242 m c) (w271 m c) (quant m (src c 1) 0 0)
def w387 (m : (ℓ : Loc nD τ sig) → Buf (Elt F) ℓ) (c : Dev nD) : FVec F S256x64 .bf16 :=
  k0_pay54 (w242 m c)
def w398 (m : (ℓ : Loc nD τ sig) → Buf (Elt F) ℓ) (c : Dev nD) : FVec F S256x64 .f32 :=
  k0_pay56 (w230 m c) (w285 m c) (w357 m c) (w360 m c) (w387 m c)
def w399 (m : (ℓ : Loc nD τ sig) → Buf (Elt F) ℓ) (c : Dev nD) : FVec F S256x1 .f32 :=
  k0_pay57 (w230 m c) (w282 m c) (w357 m c) (w387 m c)
def w411 (m : (ℓ : Loc nD τ sig) → Buf (Elt F) ℓ) (c : Dev nD) : FVec F S256x64 .f32 :=
  k0_pay59 (w230 m c) (w242 m c) (w296 m c) (w357 m c) (w360 m c)
def w412 (m : (ℓ : Loc nD τ sig) → Buf (Elt F) ℓ) (c : Dev nD) : FVec F S256x1 .f32 :=
  k0_pay60 (w230 m c) (w242 m c) (w293 m c) (w357 m c)
def w415 (m : (ℓ : Loc nD τ sig) → Buf (Elt F) ℓ) (c : Dev nD) : FVec F S256x256 .bf16 :=
  k0_pay61 (quant m (src c 1) 0 1)
def w418 (m : (ℓ : Loc nD τ sig) → Buf (Elt F) ℓ) (c : Dev nD) : FVec F S256x256 .bf16 :=
  k0_pay62 (quant m (src c 1) 1 1)
def w424 (m : (ℓ : Loc nD τ sig) → Buf (Elt F) ℓ) (c : Dev nD) : FVec F S256x256 .f32 :=
  k0_pay63 (w230 m c) (w246 m c) (quant m (src c 1) 0 1)
def w426 (m : (ℓ : Loc nD τ sig) → Buf (Elt F) ℓ) (c : Dev nD) : FVec F S256x1 .f32 :=
  k0_pay64 (w230 m c) (w246 m c) (quant m (src c 1) 0 1)
def w430 (m : (ℓ : Loc nD τ sig) → Buf (Elt F) ℓ) (c : Dev nD) : FVec F S256x64 .f32 :=
  k0_pay65 (w313 m c) (w418 m c) (w424 m c)
def w431 (m : (ℓ : Loc nD τ sig) → Buf (Elt F) ℓ) (c : Dev nD) : FVec F S256x1 .f32 :=
  k0_pay66 (w310 m c) (w426 m c)
def w443 (m : (ℓ : Loc nD τ sig) → Buf (Elt F) ℓ) (c : Dev nD) : FVec F S256x64 .f32 :=
  k0_pay68 (w230 m c) (w246 m c) (w324 m c) (w415 m c) (w418 m c)
def w444 (m : (ℓ : Loc nD τ sig) → Buf (Elt F) ℓ) (c : Dev nD) : FVec F S256x1 .f32 :=
  k0_pay69 (w230 m c) (w246 m c) (w321 m c) (w415 m c)
def w456 (m : (ℓ : Loc nD τ sig) → Buf (Elt F) ℓ) (c : Dev nD) : FVec F S256x64 .f32 :=
  k0_pay71 (w230 m c) (w246 m c) (w335 m c) (w415 m c) (w418 m c)
def w457 (m : (ℓ : Loc nD τ sig) → Buf (Elt F) ℓ) (c : Dev nD) : FVec F S256x1 .f32 :=
  k0_pay72 (w230 m c) (w246 m c) (w332 m c) (w415 m c)
def w469 (m : (ℓ : Loc nD τ sig) → Buf (Elt F) ℓ) (c : Dev nD) : FVec F S256x64 .f32 :=
  k0_pay74 (w230 m c) (w246 m c) (w346 m c) (w415 m c) (w418 m c)
def w470 (m : (ℓ : Loc nD τ sig) → Buf (Elt F) ℓ) (c : Dev nD) : FVec F S256x1 .f32 :=
  k0_pay75 (w230 m c) (w246 m c) (w343 m c) (w415 m c)
def w481 (m : (ℓ : Loc nD τ sig) → Buf (Elt F) ℓ) (c : Dev nD) : FVec F S256x256 .bf16 :=
  k0_pay76 (quant m (src c 2) 0 0)
def w484 (m : (ℓ : Loc nD τ sig) → Buf (Elt F) ℓ) (c : Dev nD) : FVec F S256x256 .bf16 :=
  k0_pay77 (quant m (src c 2) 1 0)
def w496 (m : (ℓ : Loc nD τ sig) → Buf (Elt F) ℓ) (c : Dev nD) : FVec F S256x64 .f32 :=
  k0_pay79 (w230 m c) (w242 m c) (w372 m c) (quant m (src c 2) 0 0) (quant m (src c 2) 1 0)
def w497 (m : (ℓ : Loc nD τ sig) → Buf (Elt F) ℓ) (c : Dev nD) : FVec F S256x1 .f32 :=
  k0_pay80 (w230 m c) (w242 m c) (w373 m c) (quant m (src c 2) 0 0)
def w501 (m : (ℓ : Loc nD τ sig) → Buf (Elt F) ℓ) (c : Dev nD) : FVec F S256x256 .f32 :=
  k0_pay81 (w242 m c) (quant m (src c 2) 0 0)
def w502 (m : (ℓ : Loc nD τ sig) → Buf (Elt F) ℓ) (c : Dev nD) : FVec F S256x256 .f32 :=
  k0_pay82 (F := F)
def w509 (m : (ℓ : Loc nD τ sig) → Buf (Elt F) ℓ) (c : Dev nD) : FVec F S256x64 .f32 :=
  k0_pay84 (w230 m c) (w385 m c) (w484 m c) (w501 m c) (w502 m c)
def w510 (m : (ℓ : Loc nD τ sig) → Buf (Elt F) ℓ) (c : Dev nD) : FVec F S256x1 .f32 :=
  k0_pay85 (w230 m c) (w386 m c) (w501 m c) (w502 m c)
def w522 (m : (ℓ : Loc nD τ sig) → Buf (Elt F) ℓ) (c : Dev nD) : FVec F S256x64 .f32 :=
  k0_pay87 (w230 m c) (w242 m c) (w398 m c) (w481 m c) (w484 m c)
def w523 (m : (ℓ : Loc nD τ sig) → Buf (Elt F) ℓ) (c : Dev nD) : FVec F S256x1 .f32 :=
  k0_pay88 (w230 m c) (w242 m c) (w399 m c) (w481 m c)
def w535 (m : (ℓ : Loc nD τ sig) → Buf (Elt F) ℓ) (c : Dev nD) : FVec F S256x64 .f32 :=
  k0_pay90 (w230 m c) (w242 m c) (w411 m c) (w481 m c) (w484 m c)
def w536 (m : (ℓ : Loc nD τ sig) → Buf (Elt F) ℓ) (c : Dev nD) : FVec F S256x1 .f32 :=
  k0_pay91 (w230 m c) (w242 m c) (w412 m c) (w481 m c)
def w539 (m : (ℓ : Loc nD τ sig) → Buf (Elt F) ℓ) (c : Dev nD) : FVec F S256x256 .bf16 :=
  k0_pay92 (quant m (src c 2) 0 1)
def w542 (m : (ℓ : Loc nD τ sig) → Buf (Elt F) ℓ) (c : Dev nD) : FVec F S256x256 .bf16 :=
  k0_pay93 (quant m (src c 2) 1 1)
def w554 (m : (ℓ : Loc nD τ sig) → Buf (Elt F) ℓ) (c : Dev nD) : FVec F S256x64 .f32 :=
  k0_pay95 (w230 m c) (w246 m c) (w430 m c) (w539 m c) (w542 m c)
def w555 (m : (ℓ : Loc nD τ sig) → Buf (Elt F) ℓ) (c : Dev nD) : FVec F S256x1 .f32 :=
  k0_pay96 (w230 m c) (w246 m c) (w431 m c) (w539 m c)
def w567 (m : (ℓ : Loc nD τ sig) → Buf (Elt F) ℓ) (c : Dev nD) : FVec F S256x64 .f32 :=
  k0_pay98 (w230 m c) (w246 m c) (w443 m c) (w539 m c) (w542 m c)
def w568 (m : (ℓ : Loc nD τ sig) → Buf (Elt F) ℓ) (c : Dev nD) : FVec F S256x1 .f32 :=
  k0_pay99 (w230 m c) (w246 m c) (w444 m c) (w539 m c)
def w580 (m : (ℓ : Loc nD τ sig) → Buf (Elt F) ℓ) (c : Dev nD) : FVec F S256x64 .f32 :=
  k0_pay101 (w230 m c) (w246 m c) (w456 m c) (w539 m c) (w542 m c)
def w581 (m : (ℓ : Loc nD τ sig) → Buf (Elt F) ℓ) (c : Dev nD) : FVec F S256x1 .f32 :=
  k0_pay102 (w230 m c) (w246 m c) (w457 m c) (w539 m c)
def w587 (m : (ℓ : Loc nD τ sig) → Buf (Elt F) ℓ) (c : Dev nD) : FVec F S256x256 .f32 :=
  k0_pay103 (w230 m c) (w246 m c) (w539 m c)
def w593 (m : (ℓ : Loc nD τ sig) → Buf (Elt F) ℓ) (c : Dev nD) : FVec F S256x64 .f32 :=
  k0_pay104 (w469 m c) (w542 m c) (w587 m c)
def w594 (m : (ℓ : Loc nD τ sig) → Buf (Elt F) ℓ) (c : Dev nD) : FVec F S256x1 .f32 :=
  k0_pay105 (w470 m c) (w587 m c)
def w605 (m : (ℓ : Loc nD τ sig) → Buf (Elt F) ℓ) (c : Dev nD) : FVec F S256x256 .bf16 :=
  k0_pay106 (quant m (src c 3) 0 0)
def w608 (m : (ℓ : Loc nD τ sig) → Buf (Elt F) ℓ) (c : Dev nD) : FVec F S256x256 .bf16 :=
  k0_pay107 (quant m (src c 3) 1 0)
def w616 (m : (ℓ : Loc nD τ sig) → Buf (Elt F) ℓ) (c : Dev nD) : FVec F S256x1 .f32 :=
  k0_pay109 (w230 m c) (w242 m c) (quant m (src c 3) 0 0)
def w617 (m : (ℓ : Loc nD τ sig) → Buf (Elt F) ℓ) (c : Dev nD) : FVec F S256x256 .bf16 :=
  k0_pay110 (w230 m c) (w242 m c) (quant m (src c 3) 0 0)
def w618 (m : (ℓ : Loc nD τ sig) → Buf (Elt F) ℓ) (c : Dev nD) : FVec F S256x64 .bf16 :=
  k0_pay111 (quant m (src c 3) 1 0)
def w620 (m : (ℓ : Loc nD τ sig) → Buf (Elt F) ℓ) (c : Dev nD) : FVec F S256x64 .f32 :=
  k0_pay112 (w496 m c) (w617 m c) (w618 m c)
def w621 (m : (ℓ : Loc nD τ sig) → Buf (Elt F) ℓ) (c : Dev nD) : FVec F S256x1 .f32 :=
  k0_pay113 (w497 m c) (w616 m c)
def w633 (m : (ℓ : Loc nD τ sig) → Buf (Elt F) ℓ) (c : Dev nD) : FVec F S256x64 .f32 :=
  k0_pay115 (w230 m c) (w242 m c) (w509 m c) (w605 m c) (w608 m c)
def w634 (m : (ℓ : Loc nD τ sig) → Buf (Elt F) ℓ) (c : Dev nD) : FVec F S256x1 .f32 :=
  k0_pay116 (w230 m c) (w242 m c) (w510 m c) (w605 m c)
def w646 (m : (ℓ : Loc nD τ sig) → Buf (Elt F) ℓ) (c : Dev nD) : FVec F S256x64 .f32 :=
  k0_pay118 (w230 m c) (w242 m c) (w522 m c) (w605 m c) (w608 m c)
def w647 (m : (ℓ : Loc nD τ sig) → Buf (Elt F) ℓ) (c : Dev nD) : FVec F S256x1 .f32 :=
  k0_pay119 (w230 m c) (w242 m c) (w523 m c) (w605 m c)
def w659 (m : (ℓ : Loc nD τ sig) → Buf (Elt F) ℓ) (c : Dev nD) : FVec F S256x64 .f32 :=
  k0_pay121 (w230 m c) (w242 m c) (w535 m c) (w605 m c) (w608 m c)
def w660 (m : (ℓ : Loc nD τ sig) → Buf (Elt F) ℓ) (c : Dev nD) : FVec F S256x1 .f32 :=
  k0_pay122 (w230 m c) (w242 m c) (w536 m c) (w605 m c)
def w663 (m : (ℓ : Loc nD τ sig) → Buf (Elt F) ℓ) (c : Dev nD) : FVec F S256x256 .bf16 :=
  k0_pay123 (quant m (src c 3) 0 1)
def w666 (m : (ℓ : Loc nD τ sig) → Buf (Elt F) ℓ) (c : Dev nD) : FVec F S256x256 .bf16 :=
  k0_pay124 (quant m (src c 3) 1 1)
def w678 (m : (ℓ : Loc nD τ sig) → Buf (Elt F) ℓ) (c : Dev nD) : FVec F S256x64 .f32 :=
  k0_pay126 (w230 m c) (w246 m c) (w554 m c) (quant m (src c 3) 0 1) (quant m (src c 3) 1 1)
def w679 (m : (ℓ : Loc nD τ sig) → Buf (Elt F) ℓ) (c : Dev nD) : FVec F S256x1 .f32 :=
  k0_pay127 (w230 m c) (w246 m c) (w555 m c) (quant m (src c 3) 0 1)
def w691 (m : (ℓ : Loc nD τ sig) → Buf (Elt F) ℓ) (c : Dev nD) : FVec F S256x64 .f32 :=
  k0_pay129 (w230 m c) (w246 m c) (w567 m c) (quant m (src c 3) 0 1) (quant m (src c 3) 1 1)
def w692 (m : (ℓ : Loc nD τ sig) → Buf (Elt F) ℓ) (c : Dev nD) : FVec F S256x1 .f32 :=
  k0_pay130 (w230 m c) (w246 m c) (w568 m c) (quant m (src c 3) 0 1)
def w700 (m : (ℓ : Loc nD τ sig) → Buf (Elt F) ℓ) (c : Dev nD) : FVec F S256x1 .f32 :=
  k0_pay132 (w230 m c) (w246 m c) (quant m (src c 3) 0 1)
def w703 (m : (ℓ : Loc nD τ sig) → Buf (Elt F) ℓ) (c : Dev nD) : FVec F S256x64 .f32 :=
  k0_pay133 (w230 m c) (w246 m c) (quant m (src c 3) 0 1) (quant m (src c 3) 1 1)
def w704 (m : (ℓ : Loc nD τ sig) → Buf (Elt F) ℓ) (c : Dev nD) : FVec F S256x64 .f32 :=
  k0_pay134 (w580 m c) (w703 m c)
def w705 (m : (ℓ : Loc nD τ sig) → Buf (Elt F) ℓ) (c : Dev nD) : FVec F S256x1 .f32 :=
  k0_pay135 (w581 m c) (w700 m c)
def w717 (m : (ℓ : Loc nD τ sig) → Buf (Elt F) ℓ) (c : Dev nD) : FVec F S256x64 .f32 :=
  k0_pay137 (w230 m c) (w246 m c) (w593 m c) (w663 m c) (w666 m c)
def w718 (m : (ℓ : Loc nD τ sig) → Buf (Elt F) ℓ) (c : Dev nD) : FVec F S256x1 .f32 :=
  k0_pay138 (w230 m c) (w246 m c) (w594 m c) (w663 m c)
def w729 (m : (ℓ : Loc nD τ sig) → Buf (Elt F) ℓ) (c : Dev nD) : FVec F S256x256 .bf16 :=
  k0_pay139 (quant m (src c 4) 0 0)
def w732 (m : (ℓ : Loc nD τ sig) → Buf (Elt F) ℓ) (c : Dev nD) : FVec F S256x256 .bf16 :=
  k0_pay140 (quant m (src c 4) 1 0)
def w733 (m : (ℓ : Loc nD τ sig) → Buf (Elt F) ℓ) (c : Dev nD) : FVec F S256x64 .bf16 :=
  k0_pay141 (w242 m c)
def w734 (m : (ℓ : Loc nD τ sig) → Buf (Elt F) ℓ) (c : Dev nD) : FVec F S256x64 .bf16 :=
  k0_pay142 (quant m (src c 4) 0 0)
def w744 (m : (ℓ : Loc nD τ sig) → Buf (Elt F) ℓ) (c : Dev nD) : FVec F S256x64 .f32 :=
  k0_pay144 (w230 m c) (w620 m c) (w732 m c) (w733 m c) (w734 m c)
def w745 (m : (ℓ : Loc nD τ sig) → Buf (Elt F) ℓ) (c : Dev nD) : FVec F S256x1 .f32 :=
  k0_pay145 (w230 m c) (w621 m c) (w733 m c) (w734 m c)
def w757 (m : (ℓ : Loc nD τ sig) → Buf (Elt F) ℓ) (c : Dev nD) : FVec F S256x64 .f32 :=
  k0_pay147 (w230 m c) (w242 m c) (w633 m c) (w729 m c) (w732 m c)
def w758 (m : (ℓ : Loc nD τ sig) → Buf (Elt F) ℓ) (c : Dev nD) : FVec F S256x1 .f32 :=
  k0_pay148 (w230 m c) (w242 m c) (w634 m c) (w729 m c)
def w770 (m : (ℓ : Loc nD τ sig) → Buf (Elt F) ℓ) (c : Dev nD) : FVec F S256x64 .f32 :=
  k0_pay150 (w230 m c) (w242 m c) (w646 m c) (w729 m c) (w732 m c)
def w771 (m : (ℓ : Loc nD τ sig) → Buf (Elt F) ℓ) (c : Dev nD) : FVec F S256x1 .f32 :=
  k0_pay151 (w230 m c) (w242 m c) (w647 m c) (w729 m c)
def w777 (m : (ℓ : Loc nD τ sig) → Buf (Elt F) ℓ) (c : Dev nD) : FVec F S256x256 .f32 :=
  k0_pay152 (w230 m c) (w242 m c) (w729 m c)
def w779 (m : (ℓ : Loc nD τ sig) → Buf (Elt F) ℓ) (c : Dev nD) : FVec F S256x1 .f32 :=
  k0_pay153 (w230 m c) (w242 m c) (w729 m c)
def w783 (m : (ℓ : Loc nD τ sig) → Buf (Elt F) ℓ) (c : Dev nD) : FVec F S256x64 .f32 :=
  k0_pay154 (w659 m c) (w732 m c) (w777 m c)
def w784 (m : (ℓ : Loc nD τ sig) → Buf (Elt F) ℓ) (c : Dev nD) : FVec F S256x1 .f32 :=
  k0_pay155 (w660 m c) (w779 m c)
def w787 (m : (ℓ : Loc nD τ sig) → Buf (Elt F) ℓ) (c : Dev nD) : FVec F S256x256 .bf16 :=
  k0_pay156 (quant m (src c 4) 0 1)
def w790 (m : (ℓ : Loc nD τ sig) → Buf (Elt F) ℓ) (c : Dev nD) : FVec F S256x256 .bf16 :=
  k0_pay157 (quant m (src c 4) 1 1)
def w802 (m : (ℓ : Loc nD τ sig) → Buf (Elt F) ℓ) (c : Dev nD) : FVec F S256x64 .f32 :=
  k0_pay159 (w230 m c) (w246 m c) (w678 m c) (quant m (src c 4) 0 1) (quant m (src c 4) 1 1)
def w803 (m : (ℓ : Loc nD τ sig) → Buf (Elt F) ℓ) (c : Dev nD) : FVec F S256x1 .f32 :=
  k0_pay160 (w230 m c) (w246 m c) (w679 m c) (quant m (src c 4) 0 1)
def w815 (m : (ℓ : Loc nD τ sig) → Buf (Elt F) ℓ) (c : Dev nD) : FVec F S256x64 .f32 :=
  k0_pay162 (w230 m c) (w246 m c) (w691 m c) (quant m (src c 4) 0 1) (quant m (src c 4) 1 1)
def w816 (m : (ℓ : Loc nD τ sig) → Buf (Elt F) ℓ) (c : Dev nD) : FVec F S256x1 .f32 :=
  k0_pay163 (w230 m c) (w246 m c) (w692 m c) (quant m (src c 4) 0 1)
def w819 (m : (ℓ : Loc nD τ sig) → Buf (Elt F) ℓ) (c : Dev nD) : FVec F S256x256 .f32 :=
  k0_pay164 (w246 m c) (quant m (src c 4) 0 1)
def w828 (m : (ℓ : Loc nD τ sig) → Buf (Elt F) ℓ) (c : Dev nD) : FVec F S256x64 .f32 :=
  k0_pay166 (w230 m c) (w704 m c) (w790 m c) (w819 m c)
def w829 (m : (ℓ : Loc nD τ sig) → Buf (Elt F) ℓ) (c : Dev nD) : FVec F S256x1 .f32 :=
  k0_pay167 (w230 m c) (w705 m c) (w819 m c)
def w841 (m : (ℓ : Loc nD τ sig) → Buf (Elt F) ℓ) (c : Dev nD) : FVec F S256x64 .f32 :=
  k0_pay169 (w230 m c) (w246 m c) (w717 m c) (w787 m c) (w790 m c)
def w842 (m : (ℓ : Loc nD τ sig) → Buf (Elt F) ℓ) (c : Dev nD) : FVec F S256x1 .f32 :=
  k0_pay170 (w230 m c) (w246 m c) (w718 m c) (w787 m c)
def w852 (m : (ℓ : Loc nD τ sig) → Buf (Elt F) ℓ) (c : Dev nD) : IVec S256x256 8 :=
  k0_pay171 (quant m (src c 5) 0 0)
def w853 (m : (ℓ : Loc nD τ sig) → Buf (Elt F) ℓ) (c : Dev nD) : FVec F S256x256 .bf16 :=
  k0_pay172 (F := F) (w852 m c)
def w856 (m : (ℓ : Loc nD τ sig) → Buf (Elt F) ℓ) (c : Dev nD) : FVec F S256x256 .bf16 :=
  k0_pay173 (quant m (src c 5) 1 0)
def w868 (m : (ℓ : Loc nD τ sig) → Buf (Elt F) ℓ) (c : Dev nD) : FVec F S256x64 .f32 :=
  k0_pay175 (w230 m c) (w242 m c) (w744 m c) (w852 m c) (quant m (src c 5) 1 0)
def w869 (m : (ℓ : Loc nD τ sig) → Buf (Elt F) ℓ) (c : Dev nD) : FVec F S256x1 .f32 :=
  k0_pay176 (w230 m c) (w242 m c) (w745 m c) (w852 m c)
def w881 (m : (ℓ : Loc nD τ sig) → Buf (Elt F) ℓ) (c : Dev nD) : FVec F S256x64 .f32 :=
  k0_pay178 (w230 m c) (w242 m c) (w757 m c) (w852 m c) (quant m (src c 5) 1 0)
def w882 (m : (ℓ : Loc nD τ sig) → Buf (Elt F) ℓ) (c : Dev nD) : FVec F S256x1 .f32 :=
  k0_pay179 (w230 m c) (w242 m c) (w758 m c) (w852 m c)
def w894 (m : (ℓ : Loc nD τ sig) → Buf (Elt F) ℓ) (c : Dev nD) : FVec F S256x64 .f32 :=
  k0_pay181 (w230 m c) (w242 m c) (w770 m c) (w852 m c) (quant m (src c 5) 1 0)
def w895 (m : (ℓ : Loc nD τ sig) → Buf (Elt F) ℓ) (c : Dev nD) : FVec F S256x1 .f32 :=
  k0_pay182 (w230 m c) (w242 m c) (w771 m c) (w852 m c)
def w907 (m : (ℓ : Loc nD τ sig) → Buf (Elt F) ℓ) (c : Dev nD) : FVec F S256x64 .f32 :=
  k0_pay184 (w230 m c) (w242 m c) (w783 m c) (w853 m c) (w856 m c)
def w908 (m : (ℓ : Loc nD τ sig) → Buf (Elt F) ℓ) (c : Dev nD) : FVec F S256x1 .f32 :=
  k0_pay185 (w230 m c) (w242 m c) (w784 m c) (w853 m c)
def w911 (m : (ℓ : Loc nD τ sig) → Buf (Elt F) ℓ) (c : Dev nD) : FVec F S256x256 .bf16 :=
  k0_pay186 (quant m (src c 5) 0 1)
def w914 (m : (ℓ : Loc nD τ sig) → Buf (Elt F) ℓ) (c : Dev nD) : FVec F S256x256 .bf16 :=
  k0_pay187 (quant m (src c 5) 1 1)
def w926 (m : (ℓ : Loc nD τ sig) → Buf (Elt F) ℓ) (c : Dev nD) : FVec F S256x64 .f32 :=
  k0_pay189 (w230 m c) (w246 m c) (w802 m c) (quant m (src c 5) 0 1) (quant m (src c 5) 1 1)
def w927 (m : (ℓ : Loc nD τ sig) → Buf (Elt F) ℓ) (c : Dev nD) : FVec F S256x1 .f32 :=
  k0_pay190 (w230 m c) (w246 m c) (w803 m c) (quant m (src c 5) 0 1)
def w933 (m : (ℓ : Loc nD τ sig) → Buf (Elt F) ℓ) (c : Dev nD) : FVec F S256x256 .f32 :=
  k0_pay191 (w230 m c) (w246 m c) (quant m (src c 5) 0 1)
def w934 (m : (ℓ : Loc nD τ sig) → Buf (Elt F) ℓ) (c : Dev nD) : FVec F S256 .f32 :=
  k0_pay192 (w230 m c) (w246 m c) (quant m (src c 5) 0 1)
def w939 (m : (ℓ : Loc nD τ sig) → Buf (Elt F) ℓ) (c : Dev nD) : FVec F S256x64 .f32 :=
  k0_pay193 (w815 m c) (w914 m c) (w933 m c)
def w940 (m : (ℓ : Loc nD τ sig) → Buf (Elt F) ℓ) (c : Dev nD) : FVec F S256x1 .f32 :=
  k0_pay194 (w816 m c) (w934 m c)
def w952 (m : (ℓ : Loc nD τ sig) → Buf (Elt F) ℓ) (c : Dev nD) : FVec F S256x64 .f32 :=
  k0_pay196 (w230 m c) (w246 m c) (w828 m c) (w911 m c) (w914 m c)
def w953 (m : (ℓ : Loc nD τ sig) → Buf (Elt F) ℓ) (c : Dev nD) : FVec F S256x1 .f32 :=
  k0_pay197 (w230 m c) (w246 m c) (w829 m c) (w911 m c)
def w965 (m : (ℓ : Loc nD τ sig) → Buf (Elt F) ℓ) (c : Dev nD) : FVec F S256x64 .f32 :=
  k0_pay199 (w230 m c) (w246 m c) (w841 m c) (w911 m c) (w914 m c)
def w966 (m : (ℓ : Loc nD τ sig) → Buf (Elt F) ℓ) (c : Dev nD) : FVec F S256x1 .f32 :=
  k0_pay200 (w230 m c) (w246 m c) (w842 m c) (w911 m c)
def w977 (m : (ℓ : Loc nD τ sig) → Buf (Elt F) ℓ) (c : Dev nD) : FVec F S256x256 .bf16 :=
  k0_pay201 (quant m (src c 6) 0 0)
def w980 (m : (ℓ : Loc nD τ sig) → Buf (Elt F) ℓ) (c : Dev nD) : FVec F S256x256 .bf16 :=
  k0_pay202 (quant m (src c 6) 1 0)
def w992 (m : (ℓ : Loc nD τ sig) → Buf (Elt F) ℓ) (c : Dev nD) : FVec F S256x64 .f32 :=
  k0_pay204 (w230 m c) (w242 m c) (w868 m c) (quant m (src c 6) 0 0) (quant m (src c 6) 1 0)
def w993 (m : (ℓ : Loc nD τ sig) → Buf (Elt F) ℓ) (c : Dev nD) : FVec F S256x1 .f32 :=
  k0_pay205 (w230 m c) (w242 m c) (w869 m c) (quant m (src c 6) 0 0)
def w1005 (m : (ℓ : Loc nD τ sig) → Buf (Elt F) ℓ) (c : Dev nD) : FVec F S256x64 .f32 :=
  k0_pay207 (w230 m c) (w242 m c) (w881 m c) (quant m (src c 6) 0 0) (quant m (src c 6) 1 0)
def w1006 (m : (ℓ : Loc nD τ sig) → Buf (Elt F) ℓ) (c : Dev nD) : FVec F S256x1 .f32 :=
  k0_pay208 (w230 m c) (w242 m c) (w882 m c) (quant m (src c 6) 0 0)
def w1010 (m : (ℓ : Loc nD τ sig) → Buf (Elt F) ℓ) (c : Dev nD) : FVec F S256x256 .f32 :=
  k0_pay209 (w242 m c) (quant m (src c 6) 0 0)
def wcst_623 (m : (ℓ : Loc nD τ sig) → Buf (Elt F) ℓ) (c : Dev nD) : F .f32 :=
  (Scalar.ofBits .f32 0x00000000#32)
def w1018 (m : (ℓ : Loc nD τ sig) → Buf (Elt F) ℓ) (c : Dev nD) : FVec F S256x64 .f32 :=
  k0_pay211 (w230 m c) (w894 m c) (w980 m c) (w1010 m c) (wcst_623 m c)
def w1019 (m : (ℓ : Loc nD τ sig) → Buf (Elt F) ℓ) (c : Dev nD) : FVec F S256x1 .f32 :=
  k0_pay212 (w230 m c) (w895 m c) (w1010 m c) (wcst_623 m c)
def w1031 (m : (ℓ : Loc nD τ sig) → Buf (Elt F) ℓ) (c : Dev nD) : FVec F S256x64 .f32 :=
  k0_pay214 (w230 m c) (w242 m c) (w907 m c) (w977 m c) (w980 m c)
def w1032 (m : (ℓ : Loc nD τ sig) → Buf (Elt F) ℓ) (c : Dev nD) : FVec F S256x1 .f32 :=
  k0_pay215 (w230 m c) (w242 m c) (w908 m c) (w977 m c)
def w1035 (m : (ℓ : Loc nD τ sig) → Buf (Elt F) ℓ) (c : Dev nD) : FVec F S256x256 .bf16 :=
  k0_pay216 (quant m (src c 6) 0 1)
def w1038 (m : (ℓ : Loc nD τ sig) → Buf (Elt F) ℓ) (c : Dev nD) : FVec F S256x256 .bf16 :=
  k0_pay217 (quant m (src c 6) 1 1)
def w1046 (m : (ℓ : Loc nD τ sig) → Buf (Elt F) ℓ) (c : Dev nD) : FVec F S256x1 .f32 :=
  k0_pay219 (w230 m c) (w246 m c) (quant m (src c 6) 0 1)
def w1050 (m : (ℓ : Loc nD τ sig) → Buf (Elt F) ℓ) (c : Dev nD) : FVec F S256x64 .f32 :=
  k0_pay220 (w230 m c) (w246 m c) (w926 m c) (quant m (src c 6) 0 1) (quant m (src c 6) 1 1)
def w1051 (m : (ℓ : Loc nD τ sig) → Buf (Elt F) ℓ) (c : Dev nD) : FVec F S256x1 .f32 :=
  k0_pay221 (w927 m c) (w1046 m c)
def w1063 (m : (ℓ : Loc nD τ sig) → Buf (Elt F) ℓ) (c : Dev nD) : FVec F S256x64 .f32 :=
  k0_pay223 (w230 m c) (w246 m c) (w939 m c) (w1035 m c) (w1038 m c)
def w1064 (m : (ℓ : Loc nD τ sig) → Buf (Elt F) ℓ) (c : Dev nD) : FVec F S256x1 .f32 :=
  k0_pay224 (w230 m c) (w246 m c) (w940 m c) (w1035 m c)
def w1076 (m : (ℓ : Loc nD τ sig) → Buf (Elt F) ℓ) (c : Dev nD) : FVec F S256x64 .f32 :=
  k0_pay226 (w230 m c) (w246 m c) (w952 m c) (w1035 m c) (w1038 m c)
def w1077 (m : (ℓ : Loc nD τ sig) → Buf (Elt F) ℓ) (c : Dev nD) : FVec F S256x1 .f32 :=
  k0_pay227 (w230 m c) (w246 m c) (w953 m c) (w1035 m c)
def w1089 (m : (ℓ : Loc nD τ sig) → Buf (Elt F) ℓ) (c : Dev nD) : FVec F S256x64 .f32 :=
  k0_pay229 (w230 m c) (w246 m c) (w965 m c) (w1035 m c) (w1038 m c)
def w1090 (m : (ℓ : Loc nD τ sig) → Buf (Elt F) ℓ) (c : Dev nD) : FVec F S256x1 .f32 :=
  k0_pay230 (w230 m c) (w246 m c) (w966 m c) (w1035 m c)
def w1101 (m : (ℓ : Loc nD τ sig) → Buf (Elt F) ℓ) (c : Dev nD) : FVec F S256x256 .bf16 :=
  k0_pay231 (quant m (src c 7) 0 0)
def w1104 (m : (ℓ : Loc nD τ sig) → Buf (Elt F) ℓ) (c : Dev nD) : FVec F S256x256 .bf16 :=
  k0_pay232 (quant m (src c 7) 1 0)
def w1116 (m : (ℓ : Loc nD τ sig) → Buf (Elt F) ℓ) (c : Dev nD) : FVec F S256x64 .f32 :=
  k0_pay234 (w230 m c) (w242 m c) (w992 m c) (quant m (src c 7) 0 0) (quant m (src c 7) 1 0)
def w1117 (m : (ℓ : Loc nD τ sig) → Buf (Elt F) ℓ) (c : Dev nD) : FVec F S256x1 .f32 :=
  k0_pay235 (w230 m c) (w242 m c) (w993 m c) (quant m (src c 7) 0 0)
def w1125 (m : (ℓ : Loc nD τ sig) → Buf (Elt F) ℓ) (c : Dev nD) : FVec F S256x1 .f32 :=
  k0_pay237 (w230 m c) (w242 m c) (quant m (src c 7) 0 0)
def w1126 (m : (ℓ : Loc nD τ sig) → Buf (Elt F) ℓ) (c : Dev nD) : FVec F S256x256 .bf16 :=
  k0_pay238 (w230 m c) (w242 m c) (quant m (src c 7) 0 0)
def w1129 (m : (ℓ : Loc nD τ sig) → Buf (Elt F) ℓ) (c : Dev nD) : FVec F S256x64 .f32 :=
  k0_pay239 (w1005 m c) (w1104 m c) (w1126 m c)
def w1130 (m : (ℓ : Loc nD τ sig) → Buf (Elt F) ℓ) (c : Dev nD) : FVec F S256x1 .f32 :=
  k0_pay240 (w1006 m c) (w1125 m c)
def w1142 (m : (ℓ : Loc nD τ sig) → Buf (Elt F) ℓ) (c : Dev nD) : FVec F S256x64 .f32 :=
  k0_pay242 (w230 m c) (w242 m c) (w1018 m c) (w1101 m c) (w1104 m c)
def w1143 (m : (ℓ : Loc nD τ sig) → Buf (Elt F) ℓ) (c : Dev nD) : FVec F S256x1 .f32 :=
  k0_pay243 (w230 m c) (w242 m c) (w1019 m c) (w1101 m c)
def w1155 (m : (ℓ : Loc nD τ sig) → Buf (Elt F) ℓ) (c : Dev nD) : FVec F S256x64 .f32 :=
  k0_pay245 (w230 m c) (w242 m c) (w1031 m c) (w1101 m c) (w1104 m c)
def w1156 (m : (ℓ : Loc nD τ sig) → Buf (Elt F) ℓ) (c : Dev nD) : FVec F S256x1 .f32 :=
  k0_pay246 (w230 m c) (w242 m c) (w1032 m c) (w1101 m c)
def w1159 (m : (ℓ : Loc nD τ sig) → Buf (Elt F) ℓ) (c : Dev nD) : FVec F S256x256 .bf16 :=
  k0_pay247 (quant m (src c 7) 0 1)
def w1162 (m : (ℓ : Loc nD τ sig) → Buf (Elt F) ℓ) (c : Dev nD) : FVec F S256x256 .bf16 :=
  k0_pay248 (quant m (src c 7) 1 1)
def w1166 (m : (ℓ : Loc nD τ sig) → Buf (Elt F) ℓ) (c : Dev nD) : FVec F S256x256 .f32 :=
  k0_pay249 (w246 m c) (quant m (src c 7) 0 1)
def w1174 (m : (ℓ : Loc nD τ sig) → Buf (Elt F) ℓ) (c : Dev nD) : FVec F S256x64 .f32 :=
  k0_pay251 (w230 m c) (w1050 m c) (w1162 m c) (w1166 m c)
def w1175 (m : (ℓ : Loc nD τ sig) → Buf (Elt F) ℓ) (c : Dev nD) : FVec F S256x1 .f32 :=
  k0_pay252 (w230 m c) (w1051 m c) (w1166 m c)
def w1187 (m : (ℓ : Loc nD τ sig) → Buf (Elt F) ℓ) (c : Dev nD) : FVec F S256x64 .f32 :=
  k0_pay254 (w230 m c) (w246 m c) (w1063 m c) (w1159 m c) (w1162 m c)
def w1188 (m : (ℓ : Loc nD τ sig) → Buf (Elt F) ℓ) (c : Dev nD) : FVec F S256x1 .f32 :=
  k0_pay255 (w230 m c) (w246 m c) (w1064 m c) (w1159 m c)
def w1200 (m : (ℓ : Loc nD τ sig) → Buf (Elt F) ℓ) (c : Dev nD) : FVec F S256x64 .f32 :=
  k0_pay257 (w230 m c) (w246 m c) (w1076 m c) (w1159 m c) (w1162 m c)
def w1201 (m : (ℓ : Loc nD τ sig) → Buf (Elt F) ℓ) (c : Dev nD) : FVec F S256x1 .f32 :=
  k0_pay258 (w230 m c) (w246 m c) (w1077 m c) (w1159 m c)
def w1209 (m : (ℓ : Loc nD τ sig) → Buf (Elt F) ℓ) (c : Dev nD) : FVec F S256x1 .f32 :=
  k0_pay260 (w230 m c) (w246 m c) (w1159 m c)
def w1210 (m : (ℓ : Loc nD τ sig) → Buf (Elt F) ℓ) (c : Dev nD) : FVec F S256x256 .bf16 :=
  k0_pay261 (w230 m c) (w246 m c) (w1159 m c)
def w1211 (m : (ℓ : Loc nD τ sig) → Buf (Elt F) ℓ) (c : Dev nD) : FVec F S256x64 .bf16 :=
  k0_pay262 (w1162 m c)
def wcst_720 (m : (ℓ : Loc nD τ sig) → Buf (Elt F) ℓ) (c : Dev nD) : FVec F S256x64 .f32 :=
  (constant S256x64 .f32 0x00000000#32)

end Cert.Attn

end
-- ==== Proof.PartsA.lean ====
/-
# Pieces 1 to 8 of the body

What each piece needs, what it leaves and what it hands on.
-/
module

public import proofs.«01_k».proof.Proof.Values

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

/-- The first half of the result and the second, one for each batch entry. -/
def outA (m : (ℓ : Loc nD τ sig) → Buf (Elt F) ℓ) (c : Dev nD) : FVec F S1x256x512 .f32 :=
  k0_pay263 (w238 m c) (w1116 m c) (w1117 m c) (w1129 m c) (w1130 m c) (w1142 m c) (w1143 m c) (w1155 m c) (w1156 m c)
def outB (m : (ℓ : Loc nD τ sig) → Buf (Elt F) ℓ) (c : Dev nD) : FVec F S1x256x512 .f32 :=
  k0_pay264 (w238 m c) (w1089 m c) (w1090 m c) (w1174 m c) (w1175 m c) (w1187 m c) (w1188 m c) (w1200 m c) (w1201 m c) (w1209 m c) (w1210 m c) (w1211 m c) (wcst_720 m c)

theorem out_inb (b : Fin 2) : ∀ a, (![b.val, 0, 0] : Fin 3 → Nat) a + S1x256x512.size a ≤ S2x256x512.size a := by
  revert b; decide
/-- The block of the result of batch entry `b`. -/
abbrev outR (b : Fin 2) : Rect S2x256x512 := Rect.unit (s := S2x256x512) ![b.val, 0, 0] S1x256x512.size (out_inb b)

theorem barPay_elim (c : Dev nD) (j : Fin 7) : barPay (F := F) c j ⊢ iprop(∃ f, slotPts (peer c j) j.succ fullShare f) := by
  unfold barPay; exact Entails.refl _

/-- Slot 0, filled, in the share the reads keep and one for each copy. -/
theorem slot0_split (c : Dev nD) (f : Buf (Elt F) ((c : Thread nD τ).loc cc0_scratch0)) :
    slotPts c 0 fullShare ((kvM.access (tileR 0 1 1) : View sig .tc _ _ _).write (Elt F) ((kvM.access (tileR 0 0 1) : View sig .tc _ _ _).write (Elt F) ((kvM.access (tileR 0 1 0) : View sig .tc _ _ _).write (Elt F) ((kvM.access (tileR 0 0 0) : View sig .tc _ _ _).write (Elt F) f (quant m c 0 0) Finset.univ) (quant m c 1 0) Finset.univ) (quant m c 0 1) Finset.univ) (quant m c 1 1) Finset.univ) ⊢ iprop(slotPts c 0 keptShare (KV m c) ∗ slotPts c 0 (sendShare 0) (KV m c) ∗ slotPts c 0 (sendShare 1) (KV m c)
      ∗ slotPts c 0 (sendShare 2) (KV m c) ∗ slotPts c 0 (sendShare 3) (KV m c) ∗ slotPts c 0 (sendShare 4) (KV m c) ∗ slotPts c 0 (sendShare 5) (KV m c)
      ∗ slotPts c 0 (sendShare 6) (KV m c)) := by
  show slotPts c 0 fullShare (stored m c f) ⊢ _
  rw [slot0_stored]
  unfold slotPts
  refine (Transfers.pointsTo_toks_split fullShare 7).trans ?_
  rw [bigSep_univ_eq_bigSepL [0, 1, 2, 3, 4, 5, 6] (by decide) (by decide)]
  exact Entails.refl _

theorem slot0_join (c : Dev nD) :
    iprop(slotPts c 0 keptShare (KV m c) ∗ slotPts c 0 (sendShare 0) (KV m c) ∗ slotPts c 0 (sendShare 1) (KV m c)
      ∗ slotPts c 0 (sendShare 2) (KV m c) ∗ slotPts c 0 (sendShare 3) (KV m c) ∗ slotPts c 0 (sendShare 4) (KV m c) ∗ slotPts c 0 (sendShare 5) (KV m c)
      ∗ slotPts c 0 (sendShare 6) (KV m c)) ⊢ slotPts c 0 fullShare (KV m c) := by
  unfold slotPts
  refine BIBase.Entails.trans ?_ (Transfers.pointsTo_toks_join fullShare 7)
  rw [bigSep_univ_eq_bigSepL [0, 1, 2, 3, 4, 5, 6] (by decide) (by decide)]
  exact Entails.refl _

theorem part1_spec (c : Dev nD) (g : Fin 7 → Buf (Elt F) ((c : Thread nD τ).loc cc0_scratch0)) (Q : _ → sProp 𝕄) :
    iprop(records m K ∗ Ow c (OSend c 0 + OBar c 0) ∗ sigTok c 0 ∗ slotPts c 7 fullShare (g 0) ∗ sigTok c 1 ∗ slotPts c 6 fullShare (g 1) ∗ sigTok c 2 ∗ slotPts c 5 fullShare (g 2) ∗ sigTok c 3 ∗ slotPts c 4 fullShare (g 3) ∗ sigTok c 4 ∗ slotPts c 3 fullShare (g 4))
      ⊢ iprop(((Ow c (OSend c 0 + OBar c 5)) -∗ Q ⟨c, (Scalar.remsi (Scalar.divsi (Dev.word c) 1#32) 8#32), (SemArray.scalar (sig.barrier 0 rfl)), (Scalar.addi (Scalar.remsi (Scalar.divsi (Dev.word c) 1#32) 8#32) 6#32), 8#32⟩) -∗ wpc c (k0_part1 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2) Q) := by
  rw [k0_part1_eq_skeleton]
  unfold k0_part1_skel wpc
  simp only [semSignalWord, semWaitWord, Prog.lift, Prog.bind_op, Prog.bind_ret, Prog.pure_eq_ret, wp_deviceId]
  iintro ⟨#HR, HO, Hg0, Hs0, Hg1, Hs1, Hg2, Hs2, Hg3, Hs3, Hg4, Hs4⟩ Hk
  iapply (step_signal m K c _ 0 (sig1_eq c) _ rfl (OSend c 0) (g 0)) $$ [HO Hg0 Hs0]
  · isplitr; · iexact HR
    isplitl [HO]; · iexact HO
    isplitl [Hg0]; · iexact Hg0
    iexact Hs0
  iintro HO
  iapply (step_signal m K c _ 1 (sig2_eq c) _ rfl (OSend c 0) (g 1)) $$ [HO Hg1 Hs1]
  · isplitr; · iexact HR
    isplitl [HO]; · iexact HO
    isplitl [Hg1]; · iexact Hg1
    iexact Hs1
  iintro HO
  iapply (step_signal m K c _ 2 (sig3_eq c) _ rfl (OSend c 0) (g 2)) $$ [HO Hg2 Hs2]
  · isplitr; · iexact HR
    isplitl [HO]; · iexact HO
    isplitl [Hg2]; · iexact Hg2
    iexact Hs2
  iintro HO
  iapply (step_signal m K c _ 3 (sig4_eq c) _ rfl (OSend c 0) (g 3)) $$ [HO Hg3 Hs3]
  · isplitr; · iexact HR
    isplitl [HO]; · iexact HO
    isplitl [Hg3]; · iexact Hg3
    iexact Hs3
  iintro HO
  iapply (step_signal m K c _ 4 (sig5_eq c) _ rfl (OSend c 0) (g 4)) $$ [HO Hg4 Hs4]
  · isplitr; · iexact HR
    isplitl [HO]; · iexact HO
    isplitl [Hg4]; · iexact Hg4
    iexact Hs4
  iintro HO
  unfold wpc
  rw [wp_ret]
  imodintro
  iapply Hk
  iexact HO

theorem part2_spec (c : Dev nD) (f : Buf (Elt F) ((c : Thread nD τ).loc cc0_scratch0)) (g : Fin 7 → Buf (Elt F) ((c : Thread nD τ).loc cc0_scratch0)) (v2 : BitVec 32) (v24 : BitVec 32) (c8_i32_20 : BitVec 32) (Q : _ → sProp 𝕄) :
    iprop(records m K ∗ Ow c (OSend c 0 + OBar c 5) ∗ sigTok c 5 ∗ slotPts c 2 fullShare (g 5) ∗ sigTok c 6 ∗ slotPts c 1 fullShare (g 6) ∗ Ins m c ∗ slotPts c 0 fullShare f)
      ⊢ iprop(((Ow c (OSend c 0 + OBar c 7) ∗ Ins m c ∗ slotPts c 0 fullShare ((kvM.access (tileR 0 0 0) : View sig .tc _ _ _).write (Elt F) f (quant m c 0 0) Finset.univ)) -∗ Q ⟨w53 m c, w55 m c⟩) -∗ wpc c (k0_part2 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 c v2 (SemArray.scalar (sig.barrier 0 rfl)) v24 c8_i32_20) Q) := by
  unfold w53 w55 ldV0
  rw [k0_part2_eq_skeleton]
  unfold k0_part2_skel wpc
  simp only [semSignalWord, semWaitWord, Prog.lift, Prog.bind_op, Prog.bind_ret, Prog.pure_eq_ret, wp_deviceId]
  iintro ⟨#HR, HO, Hg5, Hs5, Hg6, Hs6, HI, H0⟩ Hk
  iapply (step_signal m K c _ 5 (sig6_eq c) _ rfl (OSend c 0) (g 5)) $$ [HO Hg5 Hs5]
  · isplitr; · iexact HR
    isplitl [HO]; · iexact HO
    isplitl [Hg5]; · iexact Hg5
    iexact Hs5
  iintro HO
  iapply (step_signal m K c _ 6 (sig7_eq c) _ rfl (OSend c 0) (g 6)) $$ [HO Hg6 Hs6]
  · isplitr; · iexact HR
    isplitl [HO]; · iexact HO
    isplitl [Hg6]; · iexact Hg6
    iexact Hs6
  iintro HO
  iapply (step_ld2 m c) $$ HI
  iintro HI
  iapply (step_peek c 0 0 0 fullShare f) $$ H0
  iintro H0
  iapply (step_put c 0 0 0 f (w := quant m c 0 0)) $$ H0
  iintro H0
  iapply (step_ld3 m c) $$ HI
  iintro HI
  unfold wpc
  rw [wp_ret]
  imodintro
  iapply Hk
  isplitl [HO]; · iexact HO
  isplitl [HI]; · iexact HI
  iexact H0

theorem part3_spec (c : Dev nD) (f : Buf (Elt F) ((c : Thread nD τ).loc cc0_scratch0)) (Q : _ → sProp 𝕄) :
    iprop(slotPts c 0 fullShare ((kvM.access (tileR 0 0 0) : View sig .tc _ _ _).write (Elt F) f (quant m c 0 0) Finset.univ) ∗ Ins m c)
      ⊢ iprop(((slotPts c 0 fullShare ((kvM.access (tileR 0 0 1) : View sig .tc _ _ _).write (Elt F) ((kvM.access (tileR 0 1 0) : View sig .tc _ _ _).write (Elt F) ((kvM.access (tileR 0 0 0) : View sig .tc _ _ _).write (Elt F) f (quant m c 0 0) Finset.univ) (quant m c 1 0) Finset.univ) (quant m c 0 1) Finset.univ) ∗ Ins m c) -∗ Q ⟨w88 m c, wcst_67 m c⟩) -∗ wpc c (k0_part3 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w53 m c) (w55 m c)) Q) := by
  unfold w88 wcst_67 ldV1
  rw [k0_part3_eq_skeleton]
  unfold k0_part3_skel wpc
  simp only [semSignalWord, semWaitWord, Prog.lift, Prog.bind_op, Prog.bind_ret, Prog.pure_eq_ret, wp_deviceId]
  iintro ⟨H0, HI⟩ Hk
  iapply (step_peek c 0 1 0 fullShare ((kvM.access (tileR 0 0 0) : View sig .tc _ _ _).write (Elt F) f (quant m c 0 0) Finset.univ)) $$ H0
  iintro H0
  iapply (step_put c 0 1 0 ((kvM.access (tileR 0 0 0) : View sig .tc _ _ _).write (Elt F) f (quant m c 0 0) Finset.univ) (w := quant m c 1 0)) $$ H0
  iintro H0
  iapply (step_ld2 m c) $$ HI
  iintro HI
  iapply (step_peek c 0 0 1 fullShare ((kvM.access (tileR 0 1 0) : View sig .tc _ _ _).write (Elt F) ((kvM.access (tileR 0 0 0) : View sig .tc _ _ _).write (Elt F) f (quant m c 0 0) Finset.univ) (quant m c 1 0) Finset.univ)) $$ H0
  iintro H0
  iapply (step_put c 0 0 1 ((kvM.access (tileR 0 1 0) : View sig .tc _ _ _).write (Elt F) ((kvM.access (tileR 0 0 0) : View sig .tc _ _ _).write (Elt F) f (quant m c 0 0) Finset.univ) (quant m c 1 0) Finset.univ) (w := quant m c 0 1)) $$ H0
  iintro H0
  iapply (step_ld3 m c) $$ HI
  iintro HI
  unfold wpc
  rw [wp_ret]
  imodintro
  iapply Hk
  isplitl [H0]; · iexact H0
  iexact HI

theorem part4_spec (c : Dev nD) (f : Buf (Elt F) ((c : Thread nD τ).loc cc0_scratch0)) (v2 : BitVec 32) (Q : _ → sProp 𝕄) :
    iprop(records m K ∗ levAts L lv ∗ slotPts c 0 fullShare ((kvM.access (tileR 0 0 1) : View sig .tc _ _ _).write (Elt F) ((kvM.access (tileR 0 1 0) : View sig .tc _ _ _).write (Elt F) ((kvM.access (tileR 0 0 0) : View sig .tc _ _ _).write (Elt F) f (quant m c 0 0) Finset.univ) (quant m c 1 0) Finset.univ) (quant m c 0 1) Finset.univ) ∗ Ow c (OSend c 0 + OBar c 7) ∗ barTok c ∗ copyTok c 0)
      ⊢ iprop(((slotPts c 0 keptShare (KV m c) ∗ Ow c (OSend c 1) ∗ atPos ER (barCell c) 1 ∅ 0 ∗ barPay c 1 ∗ barPay c 2 ∗ barPay c 3 ∗ barPay c 4 ∗ barPay c 5 ∗ barPay c 6 ∗ slotPts c 0 (sendShare 1) (KV m c) ∗ slotPts c 0 (sendShare 2) (KV m c) ∗ slotPts c 0 (sendShare 3) (KV m c) ∗ slotPts c 0 (sendShare 4) (KV m c) ∗ slotPts c 0 (sendShare 5) (KV m c) ∗ slotPts c 0 (sendShare 6) (KV m c) ∗ cred (tallyAt (sendCell c 0) () N)) -∗ Q ⟨(Scalar.remsi (Scalar.addi v2 1#32) 8#32), (Scalar.remsi (Scalar.addi v2 2#32) 8#32)⟩) -∗ wpc c (k0_part4 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 c v2 (SemArray.scalar (sig.barrier 0 rfl)) (w88 m c) (wcst_67 m c)) Q) := by
  rw [k0_part4_eq_skeleton]
  unfold k0_part4_skel wpc
  simp only [semSignalWord, semWaitWord, Prog.lift, Prog.bind_op, Prog.bind_ret, Prog.pure_eq_ret, wp_deviceId]
  iintro ⟨#HR, #HL, H0, HO, Hbt, Hc0⟩ Hk
  iapply (step_peek c 0 1 1 fullShare ((kvM.access (tileR 0 0 1) : View sig .tc _ _ _).write (Elt F) ((kvM.access (tileR 0 1 0) : View sig .tc _ _ _).write (Elt F) ((kvM.access (tileR 0 0 0) : View sig .tc _ _ _).write (Elt F) f (quant m c 0 0) Finset.univ) (quant m c 1 0) Finset.univ) (quant m c 0 1) Finset.univ)) $$ H0
  iintro H0
  iapply (step_put c 0 1 1 ((kvM.access (tileR 0 0 1) : View sig .tc _ _ _).write (Elt F) ((kvM.access (tileR 0 1 0) : View sig .tc _ _ _).write (Elt F) ((kvM.access (tileR 0 0 0) : View sig .tc _ _ _).write (Elt F) f (quant m c 0 0) Finset.univ) (quant m c 1 0) Finset.univ) (quant m c 0 1) Finset.univ) (w := quant m c 1 1)) $$ H0
  iintro H0
  iapply (step_barwait m K c _ rfl) $$ [HO Hbt]
  · isplitr; · iexact HR
    isplitr; · iexact HL
    isplitl [HO]; · iexact HO
    iexact Hbt
  iintro ⟨HO, Hba, Hp0, Hp1, Hp2, Hp3, Hp4, Hp5, Hp6⟩
  ihave H0 := (slot0_split m c f) $$ H0
  icases H0 with ⟨H0, Ha0, Ha1, Ha2, Ha3, Ha4, Ha5, Ha6⟩
  ihave Hp0 := (barPay_elim c 0) $$ Hp0
  icases Hp0 with ⟨%fd0, Hp0⟩
  iapply (step_copy m K c _ 0 (copy1_eq c) fd0) $$ [Ha0 Hp0 HO Hc0]
  · isplitr; · iexact HR
    isplitl [Ha0]; · iexact Ha0
    isplitl [Hp0]; · iexact Hp0
    isplitl [HO]; · iexact HO
    iexact Hc0
  iintro ⟨Hd0, HO⟩
  unfold wpc
  rw [wp_ret]
  imodintro
  iapply Hk
  isplitl [H0]; · iexact H0
  isplitl [HO]; · iexact HO
  isplitl [Hba]; · iexact Hba
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexact Hd0

theorem part5_spec (c : Dev nD) (v2 : BitVec 32) (Q : _ → sProp 𝕄) :
    iprop(records m K ∗ slotPts c 0 (sendShare 1) (KV m c) ∗ barPay c 1 ∗ Ow c (OSend c 1) ∗ copyTok c 1 ∗ slotPts c 0 (sendShare 2) (KV m c) ∗ barPay c 2 ∗ copyTok c 2)
      ⊢ iprop(((Ow c (OSend c 3) ∗ cred (tallyAt (sendCell c 1) () N) ∗ cred (tallyAt (sendCell c 2) () N)) -∗ Q ⟨(Scalar.remsi (Scalar.addi v2 3#32) 8#32), (Scalar.remsi (Scalar.addi v2 4#32) 8#32)⟩) -∗ wpc c (k0_part5 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 c v2) Q) := by
  rw [k0_part5_eq_skeleton]
  unfold k0_part5_skel wpc
  simp only [semSignalWord, semWaitWord, Prog.lift, Prog.bind_op, Prog.bind_ret, Prog.pure_eq_ret, wp_deviceId]
  iintro ⟨#HR, Ha1, Hp1, HO, Hc1, Ha2, Hp2, Hc2⟩ Hk
  ihave Hp1 := (barPay_elim c 1) $$ Hp1
  icases Hp1 with ⟨%fd1, Hp1⟩
  iapply (step_copy m K c _ 1 (copy2_eq c) fd1) $$ [Ha1 Hp1 HO Hc1]
  · isplitr; · iexact HR
    isplitl [Ha1]; · iexact Ha1
    isplitl [Hp1]; · iexact Hp1
    isplitl [HO]; · iexact HO
    iexact Hc1
  iintro ⟨Hd1, HO⟩
  ihave Hp2 := (barPay_elim c 2) $$ Hp2
  icases Hp2 with ⟨%fd2, Hp2⟩
  iapply (step_copy m K c _ 2 (copy3_eq c) fd2) $$ [Ha2 Hp2 HO Hc2]
  · isplitr; · iexact HR
    isplitl [Ha2]; · iexact Ha2
    isplitl [Hp2]; · iexact Hp2
    isplitl [HO]; · iexact HO
    iexact Hc2
  iintro ⟨Hd2, HO⟩
  unfold wpc
  rw [wp_ret]
  imodintro
  iapply Hk
  isplitl [HO]; · iexact HO
  isplitl [Hd1]; · iexact Hd1
  iexact Hd2

theorem part6_spec (c : Dev nD) (v2 : BitVec 32) (Q : _ → sProp 𝕄) :
    iprop(records m K ∗ slotPts c 0 (sendShare 3) (KV m c) ∗ barPay c 3 ∗ Ow c (OSend c 3) ∗ copyTok c 3 ∗ slotPts c 0 (sendShare 4) (KV m c) ∗ barPay c 4 ∗ copyTok c 4)
      ⊢ iprop(((Ow c (OSend c 5) ∗ cred (tallyAt (sendCell c 3) () N) ∗ cred (tallyAt (sendCell c 4) () N)) -∗ Q ⟨(Scalar.remsi (Scalar.addi v2 5#32) 8#32), (Scalar.remsi (Scalar.addi v2 6#32) 8#32)⟩) -∗ wpc c (k0_part6 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 c v2) Q) := by
  rw [k0_part6_eq_skeleton]
  unfold k0_part6_skel wpc
  simp only [semSignalWord, semWaitWord, Prog.lift, Prog.bind_op, Prog.bind_ret, Prog.pure_eq_ret, wp_deviceId]
  iintro ⟨#HR, Ha3, Hp3, HO, Hc3, Ha4, Hp4, Hc4⟩ Hk
  ihave Hp3 := (barPay_elim c 3) $$ Hp3
  icases Hp3 with ⟨%fd3, Hp3⟩
  iapply (step_copy m K c _ 3 (copy4_eq c) fd3) $$ [Ha3 Hp3 HO Hc3]
  · isplitr; · iexact HR
    isplitl [Ha3]; · iexact Ha3
    isplitl [Hp3]; · iexact Hp3
    isplitl [HO]; · iexact HO
    iexact Hc3
  iintro ⟨Hd3, HO⟩
  ihave Hp4 := (barPay_elim c 4) $$ Hp4
  icases Hp4 with ⟨%fd4, Hp4⟩
  iapply (step_copy m K c _ 4 (copy5_eq c) fd4) $$ [Ha4 Hp4 HO Hc4]
  · isplitr; · iexact HR
    isplitl [Ha4]; · iexact Ha4
    isplitl [Hp4]; · iexact Hp4
    isplitl [HO]; · iexact HO
    iexact Hc4
  iintro ⟨Hd4, HO⟩
  unfold wpc
  rw [wp_ret]
  imodintro
  iapply Hk
  isplitl [HO]; · iexact HO
  isplitl [Hd3]; · iexact Hd3
  iexact Hd4

theorem part7_spec (c : Dev nD) (v2 : BitVec 32) (Q : _ → sProp 𝕄) :
    iprop(records m K ∗ slotPts c 0 (sendShare 5) (KV m c) ∗ barPay c 5 ∗ Ow c (OSend c 5) ∗ copyTok c 5 ∗ slotPts c 0 (sendShare 6) (KV m c) ∗ barPay c 6 ∗ copyTok c 6)
      ⊢ iprop(((Ow c (OSend c 7) ∗ cred (tallyAt (sendCell c 5) () N) ∗ cred (tallyAt (sendCell c 6) () N)) -∗ Q ⟨(Scalar.remsi (Scalar.addi v2 7#32) 8#32), w180 m c, wc64_i32 m c, w182 m c, w189 m c, w195 m c⟩) -∗ wpc c (k0_part7 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 c v2) Q) := by
  unfold w180 wc64_i32 w182 w189 w195
  rw [k0_part7_eq_skeleton]
  unfold k0_part7_skel wpc
  simp only [semSignalWord, semWaitWord, Prog.lift, Prog.bind_op, Prog.bind_ret, Prog.pure_eq_ret, wp_deviceId]
  iintro ⟨#HR, Ha5, Hp5, HO, Hc5, Ha6, Hp6, Hc6⟩ Hk
  ihave Hp5 := (barPay_elim c 5) $$ Hp5
  icases Hp5 with ⟨%fd5, Hp5⟩
  iapply (step_copy m K c _ 5 (copy6_eq c) fd5) $$ [Ha5 Hp5 HO Hc5]
  · isplitr; · iexact HR
    isplitl [Ha5]; · iexact Ha5
    isplitl [Hp5]; · iexact Hp5
    isplitl [HO]; · iexact HO
    iexact Hc5
  iintro ⟨Hd5, HO⟩
  ihave Hp6 := (barPay_elim c 6) $$ Hp6
  icases Hp6 with ⟨%fd6, Hp6⟩
  iapply (step_copy m K c _ 6 (copy7_eq c) fd6) $$ [Ha6 Hp6 HO Hc6]
  · isplitr; · iexact HR
    isplitl [Ha6]; · iexact Ha6
    isplitl [Hp6]; · iexact Hp6
    isplitl [HO]; · iexact HO
    iexact Hc6
  iintro ⟨Hd6, HO⟩
  unfold wpc
  rw [wp_ret]
  imodintro
  iapply Hk
  isplitl [HO]; · iexact HO
  isplitl [Hd5]; · iexact Hd5
  iexact Hd6

theorem part8_spec (c : Dev nD) (Q : _ → sProp 𝕄) :
    iprop(Ins m c)
      ⊢ iprop(((Ins m c) -∗ Q ⟨w230 m c, w234 m c, w238 m c⟩) -∗ wpc c (k0_part8 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w180 m c) (wc64_i32 m c) (w182 m c) (w189 m c) (w195 m c)) Q) := by
  unfold w230 w234 w238 ldWo ldWq
  rw [k0_part8_eq_skeleton]
  unfold k0_part8_skel wpc
  simp only [semSignalWord, semWaitWord, Prog.lift, Prog.bind_op, Prog.bind_ret, Prog.pure_eq_ret, wp_deviceId]
  iintro HI Hk
  iapply (step_ld1 m c) $$ HI
  iintro HI
  iapply (step_ld4 m c) $$ HI
  iintro HI
  unfold wpc
  rw [wp_ret]
  imodintro
  iapply Hk
  iexact HI

end Cert.Attn

end
-- ==== Proof.PartsB.lean ====
/-
# Pieces 9 to 20 of the body

What each piece needs, what it leaves and what it hands on.
-/
module

public import proofs.«01_k».proof.Proof.PartsA

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

theorem part9_spec (c : Dev nD) (Q : _ → sProp 𝕄) :
    iprop(Ins m c ∗ slotPts c 0 keptShare (KV m c))
      ⊢ iprop(((Ins m c ∗ slotPts c 0 keptShare (KV m c)) -∗ Q ⟨w242 m c, w246 m c, w249 m c, w252 m c, w260 m c, w263 m c, w271 m c, w274 m c⟩) -∗ wpc c (k0_part9 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w234 m c)) Q) := by
  unfold w242 w246 w249 w252 w260 w263 w271 w274 ldX0 ldX1
  rw [k0_part9_eq_skeleton]
  unfold k0_part9_skel wpc
  simp only [semSignalWord, semWaitWord, Prog.lift, Prog.bind_op, Prog.bind_ret, Prog.pure_eq_ret, wp_deviceId]
  iintro ⟨HI, H0⟩ Hk
  iapply (step_ld0 m c) $$ HI
  iintro HI
  iapply (step_ld0 m c) $$ HI
  iintro HI
  iapply (step_tile m c 0 0 0 keptShare) $$ H0
  iintro H0
  iapply (step_tile m c 0 1 0 keptShare) $$ H0
  iintro H0
  unfold wpc
  rw [wp_ret]
  imodintro
  iapply Hk
  isplitl [HI]; · iexact HI
  iexact H0

theorem part10_spec (c : Dev nD) (Q : _ → sProp 𝕄) :
    iprop(slotPts c 0 keptShare (KV m c))
      ⊢ iprop(((slotPts c 0 keptShare (KV m c)) -∗ Q ⟨w282 m c, w285 m c, w293 m c, w296 m c, w299 m c, w302 m c, w310 m c, w311 m c, w312 m c, wcst_252 m c⟩) -∗ wpc c (k0_part10 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w246 m c) (w249 m c) (w252 m c)) Q) := by
  unfold w282 w285 w293 w296 w299 w302 w310 w311 w312 wcst_252
  rw [k0_part10_eq_skeleton]
  unfold k0_part10_skel wpc
  simp only [semSignalWord, semWaitWord, Prog.lift, Prog.bind_op, Prog.bind_ret, Prog.pure_eq_ret, wp_deviceId]
  iintro H0 Hk
  iapply (step_tile m c 0 0 1 keptShare) $$ H0
  iintro H0
  iapply (step_tile m c 0 1 1 keptShare) $$ H0
  iintro H0
  unfold wpc
  rw [wp_ret]
  imodintro
  iapply Hk
  iexact H0

theorem part11_spec (c : Dev nD) (v97 : BitVec 32) (Q : _ → sProp 𝕄) :
    Q ⟨w313 m c, w321 m c, w324 m c, w332 m c, w335 m c, w343 m c, w346 m c⟩ ⊢ wpc c (k0_part11 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v97 (w230 m c) (w246 m c) (w299 m c) (w302 m c) (w311 m c) (w312 m c) (wcst_252 m c)) Q := by
  unfold w313 w321 w324 w332 w335 w343 w346
  rw [k0_part11_eq_skeleton]
  unfold k0_part11_skel wpc
  simp only [semSignalWord, semWaitWord, Prog.lift, Prog.bind_op, Prog.bind_ret, Prog.pure_eq_ret, wp_deviceId]
  rw [wp_ret]
  iintro H
  imodintro
  iexact H

theorem part12_spec (c : Dev nD) (Q : _ → sProp 𝕄) :
    iprop(records m K ∗ Ow c 0 ∗ recvTok c 0)
      ⊢ iprop(((Ow c 0 ∗ atPos ER (recvCell c 0) 1 ∅ 0 ∗ slotPts c 1 fullShare (KV m c)) -∗ Q ⟨w357 m c, w360 m c, w372 m c, w373 m c, w385 m c, w386 m c, w387 m c⟩) -∗ wpc c (k0_part12 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w260 m c) (w263 m c) (w271 m c) (w274 m c)) Q) := by
  unfold w357 w360 w372 w373 w385 w386 w387
  rw [k0_part12_eq_skeleton]
  unfold k0_part12_skel wpc
  simp only [semSignalWord, semWaitWord, Prog.lift, Prog.bind_op, Prog.bind_ret, Prog.pure_eq_ret, wp_deviceId]
  iintro ⟨#HR, HO, Hr0⟩ Hk
  iapply (step_recv m K c 0 1 rfl) $$ [HO Hr0]
  · isplitr; · iexact HR
    isplitl [HO]; · iexact HO
    iexact Hr0
  iintro ⟨HO, Hra0, Hl1⟩
  iapply (step_tile m c 1 0 0 fullShare) $$ Hl1
  iintro Hl1
  iapply (step_tile m c 1 1 0 fullShare) $$ Hl1
  iintro Hl1
  unfold wpc
  rw [wp_ret]
  imodintro
  iapply Hk
  isplitl [HO]; · iexact HO
  isplitl [Hra0]; · iexact Hra0
  iexact Hl1

theorem part13_spec (c : Dev nD) (Q : _ → sProp 𝕄) :
    iprop(slotPts c 1 fullShare (KV m c))
      ⊢ iprop(((slotPts c 1 fullShare (KV m c)) -∗ Q ⟨w398 m c, w399 m c, w411 m c, w412 m c, w415 m c, w418 m c, w424 m c, w426 m c⟩) -∗ wpc c (k0_part13 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w246 m c) (w282 m c) (w285 m c) (w293 m c) (w296 m c) (w357 m c) (w360 m c) (w387 m c)) Q) := by
  unfold w398 w399 w411 w412 w415 w418 w424 w426
  rw [k0_part13_eq_skeleton]
  unfold k0_part13_skel wpc
  simp only [semSignalWord, semWaitWord, Prog.lift, Prog.bind_op, Prog.bind_ret, Prog.pure_eq_ret, wp_deviceId]
  iintro Hl1 Hk
  iapply (step_tile m c 1 0 1 fullShare) $$ Hl1
  iintro Hl1
  iapply (step_tile m c 1 1 1 fullShare) $$ Hl1
  iintro Hl1
  unfold wpc
  rw [wp_ret]
  imodintro
  iapply Hk
  iexact Hl1

theorem part14_spec (c : Dev nD) (Q : _ → sProp 𝕄) :
    Q ⟨w430 m c, w431 m c, w443 m c, w444 m c, w456 m c, w457 m c, w469 m c, w470 m c⟩ ⊢ wpc c (k0_part14 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w246 m c) (w310 m c) (w313 m c) (w321 m c) (w324 m c) (w332 m c) (w335 m c) (w343 m c) (w346 m c) (w415 m c) (w418 m c) (w424 m c) (w426 m c)) Q := by
  unfold w430 w431 w443 w444 w456 w457 w469 w470
  rw [k0_part14_eq_skeleton]
  unfold k0_part14_skel wpc
  simp only [semSignalWord, semWaitWord, Prog.lift, Prog.bind_op, Prog.bind_ret, Prog.pure_eq_ret, wp_deviceId]
  rw [wp_ret]
  iintro H
  imodintro
  iexact H

theorem part15_spec (c : Dev nD) (v109 : BitVec 32) (Q : _ → sProp 𝕄) :
    iprop(records m K ∗ Ow c 0 ∗ recvTok c 1)
      ⊢ iprop(((Ow c 0 ∗ atPos ER (recvCell c 1) 1 ∅ 0 ∗ slotPts c 2 fullShare (KV m c)) -∗ Q ⟨w481 m c, w484 m c, w496 m c, w497 m c, w501 m c, w502 m c⟩) -∗ wpc c (k0_part15 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v109 (w230 m c) (w242 m c) (w372 m c) (w373 m c)) Q) := by
  unfold w481 w484 w496 w497 w501 w502
  rw [k0_part15_eq_skeleton]
  unfold k0_part15_skel wpc
  simp only [semSignalWord, semWaitWord, Prog.lift, Prog.bind_op, Prog.bind_ret, Prog.pure_eq_ret, wp_deviceId]
  iintro ⟨#HR, HO, Hr1⟩ Hk
  iapply (step_recv m K c 1 2 rfl) $$ [HO Hr1]
  · isplitr; · iexact HR
    isplitl [HO]; · iexact HO
    iexact Hr1
  iintro ⟨HO, Hra1, Hl2⟩
  iapply (step_tile m c 2 0 0 fullShare) $$ Hl2
  iintro Hl2
  iapply (step_tile m c 2 1 0 fullShare) $$ Hl2
  iintro Hl2
  unfold wpc
  rw [wp_ret]
  imodintro
  iapply Hk
  isplitl [HO]; · iexact HO
  isplitl [Hra1]; · iexact Hra1
  iexact Hl2

theorem part16_spec (c : Dev nD) (Q : _ → sProp 𝕄) :
    iprop(slotPts c 2 fullShare (KV m c))
      ⊢ iprop(((slotPts c 2 fullShare (KV m c)) -∗ Q ⟨w509 m c, w510 m c, w522 m c, w523 m c, w535 m c, w536 m c, w539 m c, w542 m c⟩) -∗ wpc c (k0_part16 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w385 m c) (w386 m c) (w398 m c) (w399 m c) (w411 m c) (w412 m c) (w481 m c) (w484 m c) (w501 m c) (w502 m c)) Q) := by
  unfold w509 w510 w522 w523 w535 w536 w539 w542
  rw [k0_part16_eq_skeleton]
  unfold k0_part16_skel wpc
  simp only [semSignalWord, semWaitWord, Prog.lift, Prog.bind_op, Prog.bind_ret, Prog.pure_eq_ret, wp_deviceId]
  iintro Hl2 Hk
  iapply (step_tile m c 2 0 1 fullShare) $$ Hl2
  iintro Hl2
  iapply (step_tile m c 2 1 1 fullShare) $$ Hl2
  iintro Hl2
  unfold wpc
  rw [wp_ret]
  imodintro
  iapply Hk
  iexact Hl2

theorem part17_spec (c : Dev nD) (Q : _ → sProp 𝕄) :
    Q ⟨w554 m c, w555 m c, w567 m c, w568 m c, w580 m c, w581 m c, w587 m c⟩ ⊢ wpc c (k0_part17 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w246 m c) (w430 m c) (w431 m c) (w443 m c) (w444 m c) (w456 m c) (w457 m c) (w539 m c) (w542 m c)) Q := by
  unfold w554 w555 w567 w568 w580 w581 w587
  rw [k0_part17_eq_skeleton]
  unfold k0_part17_skel wpc
  simp only [semSignalWord, semWaitWord, Prog.lift, Prog.bind_op, Prog.bind_ret, Prog.pure_eq_ret, wp_deviceId]
  rw [wp_ret]
  iintro H
  imodintro
  iexact H

theorem part18_spec (c : Dev nD) (v121 : BitVec 32) (Q : _ → sProp 𝕄) :
    iprop(records m K ∗ Ow c 0 ∗ recvTok c 2)
      ⊢ iprop(((Ow c 0 ∗ atPos ER (recvCell c 2) 1 ∅ 0 ∗ slotPts c 3 fullShare (KV m c)) -∗ Q ⟨w593 m c, w594 m c, w605 m c, w608 m c, w616 m c, w617 m c, w618 m c⟩) -∗ wpc c (k0_part18 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v121 (w230 m c) (w242 m c) (w469 m c) (w470 m c) (w542 m c) (w587 m c)) Q) := by
  unfold w593 w594 w605 w608 w616 w617 w618
  rw [k0_part18_eq_skeleton]
  unfold k0_part18_skel wpc
  simp only [semSignalWord, semWaitWord, Prog.lift, Prog.bind_op, Prog.bind_ret, Prog.pure_eq_ret, wp_deviceId]
  iintro ⟨#HR, HO, Hr2⟩ Hk
  iapply (step_recv m K c 2 3 rfl) $$ [HO Hr2]
  · isplitr; · iexact HR
    isplitl [HO]; · iexact HO
    iexact Hr2
  iintro ⟨HO, Hra2, Hl3⟩
  iapply (step_tile m c 3 0 0 fullShare) $$ Hl3
  iintro Hl3
  iapply (step_tile m c 3 1 0 fullShare) $$ Hl3
  iintro Hl3
  unfold wpc
  rw [wp_ret]
  imodintro
  iapply Hk
  isplitl [HO]; · iexact HO
  isplitl [Hra2]; · iexact Hra2
  iexact Hl3

theorem part19_spec (c : Dev nD) (Q : _ → sProp 𝕄) :
    Q ⟨w620 m c, w621 m c, w633 m c, w634 m c, w646 m c, w647 m c, w659 m c, w660 m c⟩ ⊢ wpc c (k0_part19 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w496 m c) (w497 m c) (w509 m c) (w510 m c) (w522 m c) (w523 m c) (w535 m c) (w536 m c) (w605 m c) (w608 m c) (w616 m c) (w617 m c) (w618 m c)) Q := by
  unfold w620 w621 w633 w634 w646 w647 w659 w660
  rw [k0_part19_eq_skeleton]
  unfold k0_part19_skel wpc
  simp only [semSignalWord, semWaitWord, Prog.lift, Prog.bind_op, Prog.bind_ret, Prog.pure_eq_ret, wp_deviceId]
  rw [wp_ret]
  iintro H
  imodintro
  iexact H

theorem part20_spec (c : Dev nD) (Q : _ → sProp 𝕄) :
    iprop(slotPts c 3 fullShare (KV m c))
      ⊢ iprop(((slotPts c 3 fullShare (KV m c)) -∗ Q ⟨w663 m c, w666 m c, w678 m c, w679 m c, w691 m c, w692 m c, w700 m c, w703 m c⟩) -∗ wpc c (k0_part20 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w246 m c) (w554 m c) (w555 m c) (w567 m c) (w568 m c)) Q) := by
  unfold w663 w666 w678 w679 w691 w692 w700 w703
  rw [k0_part20_eq_skeleton]
  unfold k0_part20_skel wpc
  simp only [semSignalWord, semWaitWord, Prog.lift, Prog.bind_op, Prog.bind_ret, Prog.pure_eq_ret, wp_deviceId]
  iintro Hl3 Hk
  iapply (step_tile m c 3 0 1 fullShare) $$ Hl3
  iintro Hl3
  iapply (step_tile m c 3 1 1 fullShare) $$ Hl3
  iintro Hl3
  unfold wpc
  rw [wp_ret]
  imodintro
  iapply Hk
  iexact Hl3

end Cert.Attn

end
-- ==== Proof.PartsC.lean ====
/-
# Pieces 21 to 30 of the body

What each piece needs, what it leaves and what it hands on.
-/
module

public import proofs.«01_k».proof.Proof.PartsA

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

theorem part21_spec (c : Dev nD) (v133 : BitVec 32) (Q : _ → sProp 𝕄) :
    iprop(records m K ∗ Ow c 0 ∗ recvTok c 3)
      ⊢ iprop(((Ow c 0 ∗ atPos ER (recvCell c 3) 1 ∅ 0 ∗ slotPts c 4 fullShare (KV m c)) -∗ Q ⟨w704 m c, w705 m c, w717 m c, w718 m c, w729 m c, w732 m c, w733 m c, w734 m c⟩) -∗ wpc c (k0_part21 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v133 (w230 m c) (w242 m c) (w246 m c) (w580 m c) (w581 m c) (w593 m c) (w594 m c) (w663 m c) (w666 m c) (w700 m c) (w703 m c)) Q) := by
  unfold w704 w705 w717 w718 w729 w732 w733 w734
  rw [k0_part21_eq_skeleton]
  unfold k0_part21_skel wpc
  simp only [semSignalWord, semWaitWord, Prog.lift, Prog.bind_op, Prog.bind_ret, Prog.pure_eq_ret, wp_deviceId]
  iintro ⟨#HR, HO, Hr3⟩ Hk
  iapply (step_recv m K c 3 4 rfl) $$ [HO Hr3]
  · isplitr; · iexact HR
    isplitl [HO]; · iexact HO
    iexact Hr3
  iintro ⟨HO, Hra3, Hl4⟩
  iapply (step_tile m c 4 0 0 fullShare) $$ Hl4
  iintro Hl4
  iapply (step_tile m c 4 1 0 fullShare) $$ Hl4
  iintro Hl4
  unfold wpc
  rw [wp_ret]
  imodintro
  iapply Hk
  isplitl [HO]; · iexact HO
  isplitl [Hra3]; · iexact Hra3
  iexact Hl4

theorem part22_spec (c : Dev nD) (Q : _ → sProp 𝕄) :
    Q ⟨w744 m c, w745 m c, w757 m c, w758 m c, w770 m c, w771 m c, w777 m c, w779 m c⟩ ⊢ wpc c (k0_part22 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w620 m c) (w621 m c) (w633 m c) (w634 m c) (w646 m c) (w647 m c) (w729 m c) (w732 m c) (w733 m c) (w734 m c)) Q := by
  unfold w744 w745 w757 w758 w770 w771 w777 w779
  rw [k0_part22_eq_skeleton]
  unfold k0_part22_skel wpc
  simp only [semSignalWord, semWaitWord, Prog.lift, Prog.bind_op, Prog.bind_ret, Prog.pure_eq_ret, wp_deviceId]
  rw [wp_ret]
  iintro H
  imodintro
  iexact H

theorem part23_spec (c : Dev nD) (Q : _ → sProp 𝕄) :
    iprop(slotPts c 4 fullShare (KV m c))
      ⊢ iprop(((slotPts c 4 fullShare (KV m c)) -∗ Q ⟨w783 m c, w784 m c, w787 m c, w790 m c, w802 m c, w803 m c, w815 m c, w816 m c, w819 m c⟩) -∗ wpc c (k0_part23 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w246 m c) (w659 m c) (w660 m c) (w678 m c) (w679 m c) (w691 m c) (w692 m c) (w732 m c) (w777 m c) (w779 m c)) Q) := by
  unfold w783 w784 w787 w790 w802 w803 w815 w816 w819
  rw [k0_part23_eq_skeleton]
  unfold k0_part23_skel wpc
  simp only [semSignalWord, semWaitWord, Prog.lift, Prog.bind_op, Prog.bind_ret, Prog.pure_eq_ret, wp_deviceId]
  iintro Hl4 Hk
  iapply (step_tile m c 4 0 1 fullShare) $$ Hl4
  iintro Hl4
  iapply (step_tile m c 4 1 1 fullShare) $$ Hl4
  iintro Hl4
  unfold wpc
  rw [wp_ret]
  imodintro
  iapply Hk
  iexact Hl4

theorem part24_spec (c : Dev nD) (v145 : BitVec 32) (Q : _ → sProp 𝕄) :
    iprop(records m K ∗ Ow c 0 ∗ recvTok c 4)
      ⊢ iprop(((Ow c 0 ∗ atPos ER (recvCell c 4) 1 ∅ 0 ∗ slotPts c 5 fullShare (KV m c)) -∗ Q ⟨w828 m c, w829 m c, w841 m c, w842 m c, w852 m c⟩) -∗ wpc c (k0_part24 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v145 (w230 m c) (w246 m c) (w704 m c) (w705 m c) (w717 m c) (w718 m c) (w787 m c) (w790 m c) (w819 m c)) Q) := by
  unfold w828 w829 w841 w842 w852
  rw [k0_part24_eq_skeleton]
  unfold k0_part24_skel wpc
  simp only [semSignalWord, semWaitWord, Prog.lift, Prog.bind_op, Prog.bind_ret, Prog.pure_eq_ret, wp_deviceId]
  iintro ⟨#HR, HO, Hr4⟩ Hk
  iapply (step_recv m K c 4 5 rfl) $$ [HO Hr4]
  · isplitr; · iexact HR
    isplitl [HO]; · iexact HO
    iexact Hr4
  iintro ⟨HO, Hra4, Hl5⟩
  iapply (step_tile m c 5 0 0 fullShare) $$ Hl5
  iintro Hl5
  unfold wpc
  rw [wp_ret]
  imodintro
  iapply Hk
  isplitl [HO]; · iexact HO
  isplitl [Hra4]; · iexact Hra4
  iexact Hl5

theorem part25_spec (c : Dev nD) (Q : _ → sProp 𝕄) :
    iprop(slotPts c 5 fullShare (KV m c))
      ⊢ iprop(((slotPts c 5 fullShare (KV m c)) -∗ Q ⟨w853 m c, w856 m c, w868 m c, w869 m c, w881 m c, w882 m c, w894 m c, w895 m c⟩) -∗ wpc c (k0_part25 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w744 m c) (w745 m c) (w757 m c) (w758 m c) (w770 m c) (w771 m c) (w852 m c)) Q) := by
  unfold w853 w856 w868 w869 w881 w882 w894 w895
  rw [k0_part25_eq_skeleton]
  unfold k0_part25_skel wpc
  simp only [semSignalWord, semWaitWord, Prog.lift, Prog.bind_op, Prog.bind_ret, Prog.pure_eq_ret, wp_deviceId]
  iintro Hl5 Hk
  iapply (step_tile m c 5 1 0 fullShare) $$ Hl5
  iintro Hl5
  unfold wpc
  rw [wp_ret]
  imodintro
  iapply Hk
  iexact Hl5

theorem part26_spec (c : Dev nD) (Q : _ → sProp 𝕄) :
    iprop(slotPts c 5 fullShare (KV m c))
      ⊢ iprop(((slotPts c 5 fullShare (KV m c)) -∗ Q ⟨w907 m c, w908 m c, w911 m c, w914 m c, w926 m c, w927 m c, w933 m c, w934 m c⟩) -∗ wpc c (k0_part26 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w246 m c) (w783 m c) (w784 m c) (w802 m c) (w803 m c) (w853 m c) (w856 m c)) Q) := by
  unfold w907 w908 w911 w914 w926 w927 w933 w934
  rw [k0_part26_eq_skeleton]
  unfold k0_part26_skel wpc
  simp only [semSignalWord, semWaitWord, Prog.lift, Prog.bind_op, Prog.bind_ret, Prog.pure_eq_ret, wp_deviceId]
  iintro Hl5 Hk
  iapply (step_tile m c 5 0 1 fullShare) $$ Hl5
  iintro Hl5
  iapply (step_tile m c 5 1 1 fullShare) $$ Hl5
  iintro Hl5
  unfold wpc
  rw [wp_ret]
  imodintro
  iapply Hk
  iexact Hl5

theorem part27_spec (c : Dev nD) (v157 : BitVec 32) (Q : _ → sProp 𝕄) :
    Q ⟨w939 m c, w940 m c, w952 m c, w953 m c, w965 m c, w966 m c⟩ ⊢ wpc c (k0_part27 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v157 (w230 m c) (w246 m c) (w815 m c) (w816 m c) (w828 m c) (w829 m c) (w841 m c) (w842 m c) (w911 m c) (w914 m c) (w933 m c) (w934 m c)) Q := by
  unfold w939 w940 w952 w953 w965 w966
  rw [k0_part27_eq_skeleton]
  unfold k0_part27_skel wpc
  simp only [semSignalWord, semWaitWord, Prog.lift, Prog.bind_op, Prog.bind_ret, Prog.pure_eq_ret, wp_deviceId]
  rw [wp_ret]
  iintro H
  imodintro
  iexact H

theorem part28_spec (c : Dev nD) (Q : _ → sProp 𝕄) :
    iprop(records m K ∗ Ow c 0 ∗ recvTok c 5)
      ⊢ iprop(((Ow c 0 ∗ atPos ER (recvCell c 5) 1 ∅ 0 ∗ slotPts c 6 fullShare (KV m c)) -∗ Q ⟨w977 m c, w980 m c, w992 m c, w993 m c, w1005 m c, w1006 m c, w1010 m c, wcst_623 m c⟩) -∗ wpc c (k0_part28 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w868 m c) (w869 m c) (w881 m c) (w882 m c)) Q) := by
  unfold w977 w980 w992 w993 w1005 w1006 w1010 wcst_623
  rw [k0_part28_eq_skeleton]
  unfold k0_part28_skel wpc
  simp only [semSignalWord, semWaitWord, Prog.lift, Prog.bind_op, Prog.bind_ret, Prog.pure_eq_ret, wp_deviceId]
  iintro ⟨#HR, HO, Hr5⟩ Hk
  iapply (step_recv m K c 5 6 rfl) $$ [HO Hr5]
  · isplitr; · iexact HR
    isplitl [HO]; · iexact HO
    iexact Hr5
  iintro ⟨HO, Hra5, Hl6⟩
  iapply (step_tile m c 6 0 0 fullShare) $$ Hl6
  iintro Hl6
  iapply (step_tile m c 6 1 0 fullShare) $$ Hl6
  iintro Hl6
  unfold wpc
  rw [wp_ret]
  imodintro
  iapply Hk
  isplitl [HO]; · iexact HO
  isplitl [Hra5]; · iexact Hra5
  iexact Hl6

theorem part29_spec (c : Dev nD) (Q : _ → sProp 𝕄) :
    iprop(slotPts c 6 fullShare (KV m c))
      ⊢ iprop(((slotPts c 6 fullShare (KV m c)) -∗ Q ⟨w1018 m c, w1019 m c, w1031 m c, w1032 m c, w1035 m c, w1038 m c, w1046 m c, w1050 m c⟩) -∗ wpc c (k0_part29 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w246 m c) (w894 m c) (w895 m c) (w907 m c) (w908 m c) (w926 m c) (w977 m c) (w980 m c) (w1010 m c) (wcst_623 m c)) Q) := by
  unfold w1018 w1019 w1031 w1032 w1035 w1038 w1046 w1050
  rw [k0_part29_eq_skeleton]
  unfold k0_part29_skel wpc
  simp only [semSignalWord, semWaitWord, Prog.lift, Prog.bind_op, Prog.bind_ret, Prog.pure_eq_ret, wp_deviceId]
  iintro Hl6 Hk
  iapply (step_tile m c 6 0 1 fullShare) $$ Hl6
  iintro Hl6
  iapply (step_tile m c 6 1 1 fullShare) $$ Hl6
  iintro Hl6
  unfold wpc
  rw [wp_ret]
  imodintro
  iapply Hk
  iexact Hl6

theorem part30_spec (c : Dev nD) (v169 : BitVec 32) (Q : _ → sProp 𝕄) :
    Q ⟨w1051 m c, w1063 m c, w1064 m c, w1076 m c, w1077 m c, w1089 m c, w1090 m c⟩ ⊢ wpc c (k0_part30 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 v169 (w230 m c) (w246 m c) (w927 m c) (w939 m c) (w940 m c) (w952 m c) (w953 m c) (w965 m c) (w966 m c) (w1035 m c) (w1038 m c) (w1046 m c)) Q := by
  unfold w1051 w1063 w1064 w1076 w1077 w1089 w1090
  rw [k0_part30_eq_skeleton]
  unfold k0_part30_skel wpc
  simp only [semSignalWord, semWaitWord, Prog.lift, Prog.bind_op, Prog.bind_ret, Prog.pure_eq_ret, wp_deviceId]
  rw [wp_ret]
  iintro H
  imodintro
  iexact H

end Cert.Attn

end
-- ==== Proof.PartsD.lean ====
/-
# Pieces 31 to 36 of the body

What each piece needs, what it leaves and what it hands on.
-/
module

public import proofs.«01_k».proof.Proof.PartsA

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

theorem part31_spec (c : Dev nD) (Q : _ → sProp 𝕄) :
    iprop(records m K ∗ Ow c 0 ∗ recvTok c 6)
      ⊢ iprop(((Ow c 0 ∗ atPos ER (recvCell c 6) 1 ∅ 0 ∗ slotPts c 7 fullShare (KV m c)) -∗ Q ⟨w1101 m c, w1104 m c, w1116 m c, w1117 m c, w1125 m c, w1126 m c⟩) -∗ wpc c (k0_part31 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w992 m c) (w993 m c)) Q) := by
  unfold w1101 w1104 w1116 w1117 w1125 w1126
  rw [k0_part31_eq_skeleton]
  unfold k0_part31_skel wpc
  simp only [semSignalWord, semWaitWord, Prog.lift, Prog.bind_op, Prog.bind_ret, Prog.pure_eq_ret, wp_deviceId]
  iintro ⟨#HR, HO, Hr6⟩ Hk
  iapply (step_recv m K c 6 7 rfl) $$ [HO Hr6]
  · isplitr; · iexact HR
    isplitl [HO]; · iexact HO
    iexact Hr6
  iintro ⟨HO, Hra6, Hl7⟩
  iapply (step_tile m c 7 0 0 fullShare) $$ Hl7
  iintro Hl7
  iapply (step_tile m c 7 1 0 fullShare) $$ Hl7
  iintro Hl7
  unfold wpc
  rw [wp_ret]
  imodintro
  iapply Hk
  isplitl [HO]; · iexact HO
  isplitl [Hra6]; · iexact Hra6
  iexact Hl7

theorem part32_spec (c : Dev nD) (Q : _ → sProp 𝕄) :
    iprop(slotPts c 7 fullShare (KV m c))
      ⊢ iprop(((slotPts c 7 fullShare (KV m c)) -∗ Q ⟨w1129 m c, w1130 m c, w1142 m c, w1143 m c, w1155 m c, w1156 m c, w1159 m c, w1162 m c, w1166 m c⟩) -∗ wpc c (k0_part32 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w242 m c) (w246 m c) (w1005 m c) (w1006 m c) (w1018 m c) (w1019 m c) (w1031 m c) (w1032 m c) (w1101 m c) (w1104 m c) (w1125 m c) (w1126 m c)) Q) := by
  unfold w1129 w1130 w1142 w1143 w1155 w1156 w1159 w1162 w1166
  rw [k0_part32_eq_skeleton]
  unfold k0_part32_skel wpc
  simp only [semSignalWord, semWaitWord, Prog.lift, Prog.bind_op, Prog.bind_ret, Prog.pure_eq_ret, wp_deviceId]
  iintro Hl7 Hk
  iapply (step_tile m c 7 0 1 fullShare) $$ Hl7
  iintro Hl7
  iapply (step_tile m c 7 1 1 fullShare) $$ Hl7
  iintro Hl7
  unfold wpc
  rw [wp_ret]
  imodintro
  iapply Hk
  iexact Hl7

theorem part33_spec (c : Dev nD) (Q : _ → sProp 𝕄) :
    Q ⟨w1174 m c, w1175 m c, w1187 m c, w1188 m c, w1200 m c, w1201 m c, w1209 m c, w1210 m c, w1211 m c, wcst_720 m c⟩ ⊢ wpc c (k0_part33 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w230 m c) (w246 m c) (w1050 m c) (w1051 m c) (w1063 m c) (w1064 m c) (w1076 m c) (w1077 m c) (w1159 m c) (w1162 m c) (w1166 m c)) Q := by
  unfold w1174 w1175 w1187 w1188 w1200 w1201 w1209 w1210 w1211 wcst_720
  rw [k0_part33_eq_skeleton]
  unfold k0_part33_skel wpc
  simp only [semSignalWord, semWaitWord, Prog.lift, Prog.bind_op, Prog.bind_ret, Prog.pure_eq_ret, wp_deviceId]
  rw [wp_ret]
  iintro H
  imodintro
  iexact H

theorem part34_spec (c : Dev nD) (o : (cc0_stg5_0 : Ref sig .tc).ty.Contents (Elt F)) (Q : _ → sProp 𝕄) :
    iprop(outPts c o)
      ⊢ iprop(((outPts c ((outM.access (outR 1) : View sig .tc _ _ _).write (Elt F) ((outM.access (outR 0) : View sig .tc _ _ _).write (Elt F) o (outA m c) Finset.univ) (outB m c) Finset.univ)) -∗ Q ⟨⟩) -∗ wpc c (k0_part34 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2 (w238 m c) (w1089 m c) (w1090 m c) (w1116 m c) (w1117 m c) (w1129 m c) (w1130 m c) (w1142 m c) (w1143 m c) (w1155 m c) (w1156 m c) (w1174 m c) (w1175 m c) (w1187 m c) (w1188 m c) (w1200 m c) (w1201 m c) (w1209 m c) (w1210 m c) (w1211 m c) (wcst_720 m c)) Q) := by
  rw [k0_part34_eq_skeleton]
  unfold k0_part34_skel wpc
  simp only [semSignalWord, semWaitWord, Prog.lift, Prog.bind_op, Prog.bind_ret, Prog.pure_eq_ret, wp_deviceId]
  iintro Hout Hk
  iapply (step_ldO c o) $$ Hout
  iintro Hout
  iapply (step_stO c (r := outR 0) o (w := outA m c)) $$ Hout
  iintro Hout
  iapply (step_ldO c ((outM.access (outR 0) : View sig .tc _ _ _).write (Elt F) o (outA m c) Finset.univ)) $$ Hout
  iintro Hout
  iapply (step_stO c (r := outR 1) ((outM.access (outR 0) : View sig .tc _ _ _).write (Elt F) o (outA m c) Finset.univ) (w := outB m c)) $$ Hout
  iintro Hout
  unfold wpc
  rw [wp_ret]
  imodintro
  iapply Hk
  iexact Hout

theorem part35_spec (c : Dev nD) (Q : _ → sProp 𝕄) :
    iprop(records m K ∗ Ow c 0 ∗ sendTok c 0 ∗ sendTok c 1 ∗ sendTok c 2)
      ⊢ iprop(((Ow c 0 ∗ atPos ER (sendCell c 0) 1 ∅ 0 ∗ slotPts c 0 (sendShare 0) (KV m c) ∗ atPos ER (sendCell c 1) 1 ∅ 0 ∗ slotPts c 0 (sendShare 1) (KV m c) ∗ atPos ER (sendCell c 2) 1 ∅ 0 ∗ slotPts c 0 (sendShare 2) (KV m c)) -∗ Q ⟨⟩) -∗ wpc c (k0_part35 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2) Q) := by
  rw [k0_part35_eq_skeleton]
  unfold k0_part35_skel wpc
  simp only [semSignalWord, semWaitWord, Prog.lift, Prog.bind_op, Prog.bind_ret, Prog.pure_eq_ret, wp_deviceId]
  iintro ⟨#HR, HO, Ht0, Ht1, Ht2⟩ Hk
  iapply (step_sent m K c 0) $$ [HO Ht0]
  · isplitr; · iexact HR
    isplitl [HO]; · iexact HO
    iexact Ht0
  iintro ⟨HO, Hsa0, Ha0⟩
  iapply (step_sent m K c 1) $$ [HO Ht1]
  · isplitr; · iexact HR
    isplitl [HO]; · iexact HO
    iexact Ht1
  iintro ⟨HO, Hsa1, Ha1⟩
  iapply (step_sent m K c 2) $$ [HO Ht2]
  · isplitr; · iexact HR
    isplitl [HO]; · iexact HO
    iexact Ht2
  iintro ⟨HO, Hsa2, Ha2⟩
  unfold wpc
  rw [wp_ret]
  imodintro
  iapply Hk
  isplitl [HO]; · iexact HO
  isplitl [Hsa0]; · iexact Hsa0
  isplitl [Ha0]; · iexact Ha0
  isplitl [Hsa1]; · iexact Hsa1
  isplitl [Ha1]; · iexact Ha1
  isplitl [Hsa2]; · iexact Hsa2
  iexact Ha2

theorem part36_spec (c : Dev nD) (Q : _ → sProp 𝕄) :
    iprop(records m K ∗ Ow c 0 ∗ sendTok c 3 ∗ sendTok c 4 ∗ sendTok c 5)
      ⊢ iprop(((Ow c 0 ∗ atPos ER (sendCell c 3) 1 ∅ 0 ∗ slotPts c 0 (sendShare 3) (KV m c) ∗ atPos ER (sendCell c 4) 1 ∅ 0 ∗ slotPts c 0 (sendShare 4) (KV m c) ∗ atPos ER (sendCell c 5) 1 ∅ 0 ∗ slotPts c 0 (sendShare 5) (KV m c)) -∗ Q ⟨⟩) -∗ wpc c (k0_part36 (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2) Q) := by
  rw [k0_part36_eq_skeleton]
  unfold k0_part36_skel wpc
  simp only [semSignalWord, semWaitWord, Prog.lift, Prog.bind_op, Prog.bind_ret, Prog.pure_eq_ret, wp_deviceId]
  iintro ⟨#HR, HO, Ht3, Ht4, Ht5⟩ Hk
  iapply (step_sent m K c 3) $$ [HO Ht3]
  · isplitr; · iexact HR
    isplitl [HO]; · iexact HO
    iexact Ht3
  iintro ⟨HO, Hsa3, Ha3⟩
  iapply (step_sent m K c 4) $$ [HO Ht4]
  · isplitr; · iexact HR
    isplitl [HO]; · iexact HO
    iexact Ht4
  iintro ⟨HO, Hsa4, Ha4⟩
  iapply (step_sent m K c 5) $$ [HO Ht5]
  · isplitr; · iexact HR
    isplitl [HO]; · iexact HO
    iexact Ht5
  iintro ⟨HO, Hsa5, Ha5⟩
  unfold wpc
  rw [wp_ret]
  imodintro
  iapply Hk
  isplitl [HO]; · iexact HO
  isplitl [Hsa3]; · iexact Hsa3
  isplitl [Ha3]; · iexact Ha3
  isplitl [Hsa4]; · iexact Hsa4
  isplitl [Ha4]; · iexact Ha4
  isplitl [Hsa5]; · iexact Hsa5
  iexact Ha5

end Cert.Attn

end
-- ==== Proof.Body.lean ====
/-
# The body on one device

The pieces composed: from the tokens a device starts with, its staged inputs and its buffers, to the
filled buffers, the computed result and every counter at zero.
-/
module

public import proofs.«01_k».proof.Proof.PartsA
public import proofs.«01_k».proof.Proof.PartsB
public import proofs.«01_k».proof.Proof.PartsC
public import proofs.«01_k».proof.Proof.PartsD

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

/-- The leading coordinate of a result index: its batch entry. -/
def oax (i : S2x256x512.Idx) : Fin 2 := i 0
/-- Its place within the entry. -/
def oIdx (i : S2x256x512.Idx) : S1x256x512.Idx := fun a => match a with
  | ⟨0, _⟩ => (0 : Fin 1) | ⟨1, _⟩ => (i 1 : Fin 256) | ⟨2, _⟩ => (i 2 : Fin 512)

/-- The result block. -/
def outF (c : Dev nD) : (cc0_stg5_0 : Ref sig .tc).ty.Contents (Elt F) := fun i : S2x256x512.Idx =>
  if oax i = 0 then outA m c (oIdx i) else outB m c (oIdx i)

omit [FloatOps F] in
theorem outR_mem (b : Fin 2) (i : S2x256x512.Idx) : i ∈ (outR b).set ↔ i 0 = b := by
  refine (Rect.mem_set_unit).trans ⟨fun H => ?_, fun H a => ?_⟩
  · refine Fin.ext ?_
    have h1 := (H 0).1; have h2 := (H 0).2; simp at h1 h2; omega
  · subst H
    fin_cases a
    · exact ⟨le_refl _, Nat.lt_succ_self _⟩
    · exact ⟨Nat.zero_le _, by simpa using (show (i 1).val < 256 from (i 1).isLt)⟩
    · exact ⟨Nat.zero_le _, by simpa using (show (i 2).val < 512 from (i 2).isLt)⟩

omit [FloatOps F] in
theorem outR_emb (b : Fin 2) (i : S2x256x512.Idx) (h : i 0 = b) : (outR b).emb (oIdx i) = i := by
  subst h
  funext a
  fin_cases a
  · exact Fin.ext (by show (i 0).val + 1 * 0 = _; simp)
  · exact Fin.ext (by show 0 + 1 * (i 1).val = _; simp)
  · exact Fin.ext (by show 0 + 1 * (i 2).val = _; simp)

omit [FloatOps F] in
theorem out_write (b : Fin 2) (f : (cc0_stg5_0 : Ref sig .tc).ty.Contents (Elt F)) (w : Vec F S1x256x512 .f32) (i : S2x256x512.Idx) :
    ((outM.access (outR b) : View sig .tc _ _ _).write (Elt F) f w Finset.univ) i = if oax i = b then w (oIdx i) else f i := by
  by_cases h : oax i = b
  · rw [if_pos h]
    have hi : (outM.access (outR b) : View sig .tc _ _ _).emb (oIdx i) = i := outR_emb b i h
    conv_lhs => rw [← hi]
    exact (View.write_emb_of_mem _ _ (Finset.mem_univ _)).trans rfl
  · rw [if_neg h]
    refine View.write_of_not_mem _ _ _ fun hm => h ?_
    rw [View.setOn_univ] at hm
    have : (outM.access (outR b) : View sig .tc _ _ _).set = (outR b).set := View.set_slice_whole _ _
    rw [this] at hm
    exact (outR_mem b i).mp hm

theorem outF_eq (c : Dev nD) (o : (cc0_stg5_0 : Ref sig .tc).ty.Contents (Elt F)) :
    ((outM.access (outR 1) : View sig .tc _ _ _).write (Elt F) ((outM.access (outR 0) : View sig .tc _ _ _).write (Elt F) o (outA m c) Finset.univ) (outB m c) Finset.univ)
      = outF m c := by
  unfold outF
  generalize outA m c = A
  generalize outB m c = B
  funext i
  rw [out_write, out_write]
  have two : ∀ k : Fin 2, k = 0 ∨ k = 1 := by decide
  rcases two (oax i) with h | h
  · rw [if_neg (by rw [h]; decide), if_pos h, if_pos h]
  · rw [if_pos h, if_neg (by rw [h]; decide)]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem sendTok_intro (c : Dev nD) (j : Fin 7) :
    iprop(atPos ER (sendCell c j) 0 ∅ 0 ∗ cred (tallyAt (sendCell c j) () N)) ⊢ (sendTok c j : sProp 𝕄) := by
  unfold sendTok; exact Entails.refl _

/-- What a device holds when its body is over. -/
def bodyOut (c : Dev nD) : sProp 𝕄 :=
  iprop(Ow c 0 ∗ Ins m c ∗ outPts c (outF m c) ∗ (((c : Thread nD τ).loc cc0_scratch0) ↦{fullShare} KV m c)
    ∗ semVal (barCell c) 0 ∗ (bigSep Finset.univ fun j : Fin 7 => semVal (sendCell c j) 0) ∗ (bigSep Finset.univ fun j : Fin 7 => semVal (recvCell c j) 0))

set_option maxHeartbeats 4000000 in
theorem body_spec (c : Dev nD) (f : Buf (Elt F) ((c : Thread nD τ).loc cc0_scratch0)) (o : (cc0_stg5_0 : Ref sig .tc).ty.Contents (Elt F)) :
    iprop(records m K ∗ levAts L lv ∗ Ow c (O₀ c) ∗ barTok c ∗ (bigSep Finset.univ fun j : Fin 7 => sigTok c j)
        ∗ (bigSep Finset.univ fun j : Fin 7 => copyTok c j) ∗ (bigSep Finset.univ fun j : Fin 7 => atPos ER (sendCell c j) 0 ∅ 0)
        ∗ (bigSep Finset.univ fun j : Fin 7 => recvTok c j) ∗ Ins m c ∗ outPts c o ∗ (((c : Thread nD τ).loc cc0_scratch0) ↦{fullShare} f))
      ⊢ wpc c (cc0_body (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2) (fun _ => bodyOut m c) := by
  rw [kv_slots, bigSep_fin7, bigSep_fin7, bigSep_fin7, bigSep_fin7, cc0_body_eq_skeleton, show O₀ c = OSend c 0 + OBar c 0 from rfl]
  unfold cc0_body_skel wpc
  iintro ⟨#HR, #HL, HO, Hbt, ⟨Hg0, Hg1, Hg2, Hg3, Hg4, Hg5, Hg6⟩, ⟨Hc0, Hc1, Hc2, Hc3, Hc4, Hc5, Hc6⟩, ⟨Hq0, Hq1, Hq2, Hq3, Hq4, Hq5, Hq6⟩, ⟨Hr0, Hr1, Hr2, Hr3, Hr4, Hr5, Hr6⟩, HI, Hout, ⟨H0, Hs6, Hs5, Hs4, Hs3, Hs2, Hs1, Hs0⟩⟩
  rw [wp_bind]
  iapply (part1_spec m K c (fun _ => f) _) $$ [HO Hg0 Hs0 Hg1 Hs1 Hg2 Hs2 Hg3 Hs3 Hg4 Hs4]
  · isplitr; · iexact HR
    isplitl [HO]; · iexact HO
    isplitl [Hg0]; · iexact Hg0
    isplitl [Hs0]; · iexact Hs0
    isplitl [Hg1]; · iexact Hg1
    isplitl [Hs1]; · iexact Hs1
    isplitl [Hg2]; · iexact Hg2
    isplitl [Hs2]; · iexact Hs2
    isplitl [Hg3]; · iexact Hg3
    isplitl [Hs3]; · iexact Hs3
    isplitl [Hg4]; · iexact Hg4
    iexact Hs4
  iintro HO
  dsimp only
  rw [wp_bind]
  iapply (part2_spec m K c f (fun _ => f) _ _ _ _) $$ [HO Hg5 Hs5 Hg6 Hs6 HI H0]
  · isplitr; · iexact HR
    isplitl [HO]; · iexact HO
    isplitl [Hg5]; · iexact Hg5
    isplitl [Hs5]; · iexact Hs5
    isplitl [Hg6]; · iexact Hg6
    isplitl [Hs6]; · iexact Hs6
    isplitl [HI]; · iexact HI
    iexact H0
  iintro ⟨HO, HI, H0⟩
  dsimp only
  rw [wp_bind]
  iapply (part3_spec m c f _) $$ [H0 HI]
  · isplitl [H0]; · iexact H0
    iexact HI
  iintro ⟨H0, HI⟩
  dsimp only
  rw [wp_bind]
  iapply (part4_spec m K c f _ _) $$ [H0 HO Hbt Hc0]
  · isplitr; · iexact HR
    isplitr; · iexact HL
    isplitl [H0]; · iexact H0
    isplitl [HO]; · iexact HO
    isplitl [Hbt]; · iexact Hbt
    iexact Hc0
  iintro ⟨H0, HO, Hba, Hp1, Hp2, Hp3, Hp4, Hp5, Hp6, Ha1, Ha2, Ha3, Ha4, Ha5, Ha6, Hd0⟩
  dsimp only
  rw [wp_bind]
  iapply (part5_spec m K c _ _) $$ [Ha1 Hp1 HO Hc1 Ha2 Hp2 Hc2]
  · isplitr; · iexact HR
    isplitl [Ha1]; · iexact Ha1
    isplitl [Hp1]; · iexact Hp1
    isplitl [HO]; · iexact HO
    isplitl [Hc1]; · iexact Hc1
    isplitl [Ha2]; · iexact Ha2
    isplitl [Hp2]; · iexact Hp2
    iexact Hc2
  iintro ⟨HO, Hd1, Hd2⟩
  dsimp only
  rw [wp_bind]
  iapply (part6_spec m K c _ _) $$ [Ha3 Hp3 HO Hc3 Ha4 Hp4 Hc4]
  · isplitr; · iexact HR
    isplitl [Ha3]; · iexact Ha3
    isplitl [Hp3]; · iexact Hp3
    isplitl [HO]; · iexact HO
    isplitl [Hc3]; · iexact Hc3
    isplitl [Ha4]; · iexact Ha4
    isplitl [Hp4]; · iexact Hp4
    iexact Hc4
  iintro ⟨HO, Hd3, Hd4⟩
  dsimp only
  rw [wp_bind]
  iapply (part7_spec m K c _ _) $$ [Ha5 Hp5 HO Hc5 Ha6 Hp6 Hc6]
  · isplitr; · iexact HR
    isplitl [Ha5]; · iexact Ha5
    isplitl [Hp5]; · iexact Hp5
    isplitl [HO]; · iexact HO
    isplitl [Hc5]; · iexact Hc5
    isplitl [Ha6]; · iexact Ha6
    isplitl [Hp6]; · iexact Hp6
    iexact Hc6
  iintro ⟨HO, Hd5, Hd6⟩
  dsimp only
  rw [show OSend c 7 = 0 from OSend_end c]
  rw [wp_bind]
  iapply (part8_spec m c _) $$ HI
  iintro HI
  dsimp only
  rw [wp_bind]
  iapply (part9_spec m c _) $$ [HI H0]
  · isplitl [HI]; · iexact HI
    iexact H0
  iintro ⟨HI, H0⟩
  dsimp only
  rw [wp_bind]
  iapply (part10_spec m c _) $$ H0
  iintro H0
  dsimp only
  rw [wp_bind]
  iapply (part11_spec m c _ _)
  dsimp only
  rw [wp_bind]
  iapply (part12_spec m K c _) $$ [HO Hr0]
  · isplitr; · iexact HR
    isplitl [HO]; · iexact HO
    iexact Hr0
  iintro ⟨HO, Hra0, Hl1⟩
  dsimp only
  rw [wp_bind]
  iapply (part13_spec m c _) $$ Hl1
  iintro Hl1
  dsimp only
  rw [wp_bind]
  iapply (part14_spec m c _)
  dsimp only
  rw [wp_bind]
  iapply (part15_spec m K c _ _) $$ [HO Hr1]
  · isplitr; · iexact HR
    isplitl [HO]; · iexact HO
    iexact Hr1
  iintro ⟨HO, Hra1, Hl2⟩
  dsimp only
  rw [wp_bind]
  iapply (part16_spec m c _) $$ Hl2
  iintro Hl2
  dsimp only
  rw [wp_bind]
  iapply (part17_spec m c _)
  dsimp only
  rw [wp_bind]
  iapply (part18_spec m K c _ _) $$ [HO Hr2]
  · isplitr; · iexact HR
    isplitl [HO]; · iexact HO
    iexact Hr2
  iintro ⟨HO, Hra2, Hl3⟩
  dsimp only
  rw [wp_bind]
  iapply (part19_spec m c _)
  dsimp only
  rw [wp_bind]
  iapply (part20_spec m c _) $$ Hl3
  iintro Hl3
  dsimp only
  rw [wp_bind]
  iapply (part21_spec m K c _ _) $$ [HO Hr3]
  · isplitr; · iexact HR
    isplitl [HO]; · iexact HO
    iexact Hr3
  iintro ⟨HO, Hra3, Hl4⟩
  dsimp only
  rw [wp_bind]
  iapply (part22_spec m c _)
  dsimp only
  rw [wp_bind]
  iapply (part23_spec m c _) $$ Hl4
  iintro Hl4
  dsimp only
  rw [wp_bind]
  iapply (part24_spec m K c _ _) $$ [HO Hr4]
  · isplitr; · iexact HR
    isplitl [HO]; · iexact HO
    iexact Hr4
  iintro ⟨HO, Hra4, Hl5⟩
  dsimp only
  rw [wp_bind]
  iapply (part25_spec m c _) $$ Hl5
  iintro Hl5
  dsimp only
  rw [wp_bind]
  iapply (part26_spec m c _) $$ Hl5
  iintro Hl5
  dsimp only
  rw [wp_bind]
  iapply (part27_spec m c _ _)
  dsimp only
  rw [wp_bind]
  iapply (part28_spec m K c _) $$ [HO Hr5]
  · isplitr; · iexact HR
    isplitl [HO]; · iexact HO
    iexact Hr5
  iintro ⟨HO, Hra5, Hl6⟩
  dsimp only
  rw [wp_bind]
  iapply (part29_spec m c _) $$ Hl6
  iintro Hl6
  dsimp only
  rw [wp_bind]
  iapply (part30_spec m c _ _)
  dsimp only
  rw [wp_bind]
  iapply (part31_spec m K c _) $$ [HO Hr6]
  · isplitr; · iexact HR
    isplitl [HO]; · iexact HO
    iexact Hr6
  iintro ⟨HO, Hra6, Hl7⟩
  dsimp only
  rw [wp_bind]
  iapply (part32_spec m c _) $$ Hl7
  iintro Hl7
  dsimp only
  rw [wp_bind]
  iapply (part33_spec m c _)
  dsimp only
  rw [wp_bind]
  iapply (part34_spec m c o _) $$ Hout
  iintro Hout
  ihave Ht0 := (sendTok_intro c 0) $$ [Hq0 Hd0]
  · isplitl [Hq0] <;> iassumption
  ihave Ht1 := (sendTok_intro c 1) $$ [Hq1 Hd1]
  · isplitl [Hq1] <;> iassumption
  ihave Ht2 := (sendTok_intro c 2) $$ [Hq2 Hd2]
  · isplitl [Hq2] <;> iassumption
  ihave Ht3 := (sendTok_intro c 3) $$ [Hq3 Hd3]
  · isplitl [Hq3] <;> iassumption
  ihave Ht4 := (sendTok_intro c 4) $$ [Hq4 Hd4]
  · isplitl [Hq4] <;> iassumption
  ihave Ht5 := (sendTok_intro c 5) $$ [Hq5 Hd5]
  · isplitl [Hq5] <;> iassumption
  ihave Ht6 := (sendTok_intro c 6) $$ [Hq6 Hd6]
  · isplitl [Hq6] <;> iassumption
  rw [wp_bind]
  iapply (part35_spec m K c _) $$ [HO Ht0 Ht1 Ht2]
  · isplitr; · iexact HR
    isplitl [HO]; · iexact HO
    isplitl [Ht0]; · iexact Ht0
    isplitl [Ht1]; · iexact Ht1
    iexact Ht2
  iintro ⟨HO, Hsa0, Ha0, Hsa1, Ha1, Hsa2, Ha2⟩
  rw [wp_bind]
  iapply (part36_spec m K c _) $$ [HO Ht3 Ht4 Ht5]
  · isplitr; · iexact HR
    isplitl [HO]; · iexact HO
    isplitl [Ht3]; · iexact Ht3
    isplitl [Ht4]; · iexact Ht4
    iexact Ht5
  iintro ⟨HO, Hsa3, Ha3, Hsa4, Ha4, Hsa5, Ha5⟩
  simp only [Prog.lift, Prog.bind_op, Prog.bind_ret, Prog.pure_eq_ret]
  iapply (step_sent m K c 6) $$ [HO Ht6]
  · isplitr; · iexact HR
    isplitl [HO]; · iexact HO
    iexact Ht6
  iintro ⟨HO, Hsa6, Ha6⟩
  unfold wpc
  rw [wp_ret]
  imod (close_bar m K c) $$ [Hba] with Hzb
  · isplitr; · iexact HR
    iexact Hba
  imod (close_send m K c 0) $$ [Hsa0] with Hzs0
  · isplitr; · iexact HR
    iexact Hsa0
  imod (close_recv m K c 0) $$ [Hra0] with Hzr0
  · isplitr; · iexact HR
    iexact Hra0
  imod (close_send m K c 1) $$ [Hsa1] with Hzs1
  · isplitr; · iexact HR
    iexact Hsa1
  imod (close_recv m K c 1) $$ [Hra1] with Hzr1
  · isplitr; · iexact HR
    iexact Hra1
  imod (close_send m K c 2) $$ [Hsa2] with Hzs2
  · isplitr; · iexact HR
    iexact Hsa2
  imod (close_recv m K c 2) $$ [Hra2] with Hzr2
  · isplitr; · iexact HR
    iexact Hra2
  imod (close_send m K c 3) $$ [Hsa3] with Hzs3
  · isplitr; · iexact HR
    iexact Hsa3
  imod (close_recv m K c 3) $$ [Hra3] with Hzr3
  · isplitr; · iexact HR
    iexact Hra3
  imod (close_send m K c 4) $$ [Hsa4] with Hzs4
  · isplitr; · iexact HR
    iexact Hsa4
  imod (close_recv m K c 4) $$ [Hra4] with Hzr4
  · isplitr; · iexact HR
    iexact Hra4
  imod (close_send m K c 5) $$ [Hsa5] with Hzs5
  · isplitr; · iexact HR
    iexact Hsa5
  imod (close_recv m K c 5) $$ [Hra5] with Hzr5
  · isplitr; · iexact HR
    iexact Hra5
  imod (close_send m K c 6) $$ [Hsa6] with Hzs6
  · isplitr; · iexact HR
    iexact Hsa6
  imod (close_recv m K c 6) $$ [Hra6] with Hzr6
  · isplitr; · iexact HR
    iexact Hra6
  ihave H0 := (slot0_join m c) $$ [H0 Ha0 Ha1 Ha2 Ha3 Ha4 Ha5 Ha6]
  · isplitl [H0]; · iexact H0
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  imodintro
  unfold bodyOut
  rw [kv_slots, bigSep_fin7, bigSep_fin7]
  isplitl [HO]; · iexact HO
  isplitl [HI]; · iexact HI
  isplitl [Hout]; · rw [outF_eq]; iexact Hout
  isplitl [H0 Hl1 Hl2 Hl3 Hl4 Hl5 Hl6 Hl7]
  · isplitl [H0]; · iexact H0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [Hzb]; · iexact Hzb
  isplitl [Hzs0 Hzs1 Hzs2 Hzs3 Hzs4 Hzs5 Hzs6]
  · isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    iexact Hzs6
  isplitl [Hzr0]; · iexact Hzr0
  isplitl [Hzr1]; · iexact Hzr1
  isplitl [Hzr2]; · iexact Hzr2
  isplitl [Hzr3]; · iexact Hzr3
  isplitl [Hzr4]; · iexact Hzr4
  isplitl [Hzr5]; · iexact Hzr5
  iexact Hzr6

end Cert.Attn

end
-- ==== Proof.Launch.lean ====
/-
# The launch

What each device holds at the start of its body, how the duty tokens and the launch credit reach the
devices that use them, and the run of the whole program.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 65536

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The launch state. -/
abbrev s₀ : MemSt nD τ sig (Elt F) := ⟨m, fun _ => 0, ρ⟩

/-! ## What the body is given -/

def payToks (c : Dev nD) : sProp 𝕄 :=
  iprop((bigSep Finset.univ fun j : Fin 7 => sigTok c j) ∗ bigSep Finset.univ fun j : Fin 7 => copyTok c j)

/-- What the exchange gives device `c` at the launch. -/
def ghost (K : Dev nD × Fin 15 → ℕ) (c : Dev nD) : sProp 𝕄 :=
  iprop(records m K ∗ (bigSep Finset.univ fun k : Fin 15 => atPos ER (kcell (c, k)) 0 ∅ 0) ∗ payToks c)

def start (c : Dev nD) : sProp 𝕄 :=
  iprop((∃ K, ghost m K c) ∗ cred (tallyAt (barCell c) () 7) ∗ (bigSep Finset.univ fun j : Fin 7 => cred (tallyAt (recvCell c j) () N)) ∗ levAts L lv)

/-- Before the body: its start, and the quantised buffer at whatever it holds. -/
def Φ₀ (c : Dev nD) : sProp 𝕄 :=
  iprop(start m c ∗ ∃ f : Buf (Elt F) ((c : Thread nD τ).loc cc0_scratch0), ((c : Thread nD τ).loc cc0_scratch0) ↦{fullShare} f)
/-- After it: the filled buffer, and every counter of the device at zero. -/
def Φ₁ (c : Dev nD) : sProp 𝕄 :=
  iprop((((c : Thread nD τ).loc cc0_scratch0) ↦{fullShare} KV m c) ∗ semVal (barCell c) 0
    ∗ (bigSep Finset.univ fun j : Fin 7 => semVal (sendCell c j) 0) ∗ (bigSep Finset.univ fun j : Fin 7 => semVal (recvCell c j) 0))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body at its one point -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ m c ∗ (dats m ρ 0 c).owesAt () t0_0.succ ∗ stg c cc0_stg0_0 (stg0 m c) ∗ stg c cc0_stg1_0 (stg1 m c) ∗ stg c cc0_stg2_0 (stg2 m c)
    ∗ stg c cc0_stg3_0 (stg3 m c) ∗ stg c cc0_stg4_0 (stg4 m c) ∗ stg c cc0_stg5_0 (outF m c))

theorem body_post (c : Dev nD) : bodyOut m c ⊢ bodyPost m ρ c := by
  unfold bodyOut bodyPost Φ₁ Pipeline.Dat.owesAt Pipeline.owesWithin Ow Ins outPts
  rw [show (dats m ρ 0 c).owed t0_0.succ = 0 from rfl]
  iintro ⟨⟨%W, HO⟩, ⟨H0, H1, H2, H3, H4⟩, H5, Hkv, Hb, Hs, Hr⟩
  isplitl [Hkv Hb Hs Hr]
  · isplitl [Hkv]; · iexact Hkv
    isplitl [Hb]; · iexact Hb
    isplitl [Hs] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The positions, cell by cell. -/
theorem fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem positions (c : Dev nD) : (bigSep Finset.univ fun k : Fin 15 => (atPos ER (kcell (c, k)) 0 ∅ 0 : sProp 𝕄))
    ⊢ iprop(atPos ER (barCell c) 0 ∅ 0 ∗ (bigSep Finset.univ fun j : Fin 7 => atPos ER (sendCell c j) 0 ∅ 0)
        ∗ bigSep Finset.univ fun j : Fin 7 => atPos ER (recvCell c j) 0 ∅ 0) := by
  rw [fin15, bigSep_fin7, bigSep_fin7]
  iintro ⟨HB, S0, S1, S2, S3, S4, S5, S6, R0, R1, R2, R3, R4, R5, R6⟩
  isplitl [HB]; · iexact HB
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [R0]; · iexact R0
  isplitl [R1]; · iexact R1
  isplitl [R2]; · iexact R2
  isplitl [R3]; · iexact R3
  isplitl [R4]; · iexact R4
  isplitl [R5]; · iexact R5
  iexact R6

theorem recvToks (c : Dev nD) :
    iprop((bigSep Finset.univ fun j : Fin 7 => (atPos ER (recvCell c j) 0 ∅ 0 : sProp 𝕄)) ∗ bigSep Finset.univ fun j : Fin 7 => cred (tallyAt (recvCell c j) () N))
      ⊢ bigSep Finset.univ fun j : Fin 7 => recvTok c j := by
  rw [← bigSep_sep']
  exact bigSep_mono fun j _ => by unfold recvTok; exact Entails.refl _

theorem body_pre (c : Dev nD) : bodyPre m ρ c ⊢ wpc c (cc0_body (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2) (fun _ => bodyPost m ρ c) := by
  unfold bodyPre Φ₀ start ghost payToks Pipeline.Dat.owesAt Pipeline.owesWithin
  rw [show (dats m ρ 0 c).owed t0_0.castSucc = O₀ c from rfl]
  iintro ⟨⟨⟨⟨%K, #HR, Hat, Hg, Hc⟩, HcB, HcV, #HL⟩, ⟨%f, Hkv⟩⟩, ⟨%W, %hW, HO⟩, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %g5, %hg5, H5⟩⟩
  have e0 : g0 = stg0 m c := by rw [hg0]; unfold Pipeline.Dat.before; rw [if_pos (fetch0_0 t0_0)]; rfl
  subst e0
  have e1 : g1 = stg1 m c := by rw [hg1]; unfold Pipeline.Dat.before; rw [if_pos (fetch0_1 t0_0)]; rfl
  subst e1
  have e2 : g2 = stg2 m c := by rw [hg2]; unfold Pipeline.Dat.before; rw [if_pos (fetch0_2 t0_0)]; rfl
  subst e2
  have e3 : g3 = stg3 m c := by rw [hg3]; unfold Pipeline.Dat.before; rw [if_pos (fetch0_3 t0_0)]; rfl
  subst e3
  have e4 : g4 = stg4 m c := by rw [hg4]; unfold Pipeline.Dat.before; rw [if_pos (fetch0_4 t0_0)]; rfl
  subst e4
  ihave Hat := (positions (F := F) c) $$ Hat
  icases Hat with ⟨HaB, HaS, HaV⟩
  ihave Hr := (recvToks (F := F) c) $$ [HaV HcV]
  · isplitl [HaV] <;> iassumption
  iapply (wp_mono frame _ _ (fun _ => body_post m ρ c))
  iapply (body_spec m K c f g5)
  isplitr; · iexact HR
  isplitr; · iexact HL
  isplitl [HO]; · unfold Ow; iexists W; iexact HO
  isplitl [HaB HcB]
  · unfold barTok
    isplitl [HaB] <;> iassumption
  isplitl [Hg]; · iexact Hg
  isplitl [Hc]; · iexact Hc
  isplitl [HaS]; · iexact HaS
  isplitl [Hr]; · iexact Hr
  isplitl [H0 H1 H2 H3 H4]
  · unfold Ins
    isplitl [H0]; · iexact H0
    isplitl [H1]; · iexact H1
    isplitl [H2]; · iexact H2
    isplitl [H3] <;> iassumption
  isplitl [H5]; · unfold outPts; iexact H5
  iexact Hkv

set_option maxRecDepth 8000 in
theorem body_obligation (c : Dev nD) : Pipeline.BodyObligation (dats (F := F) m ρ 0 c) (defs₀ (F := F)) 𝒱₀ () Set.univ := fun t => by
  rw [fin_N0 t]
  rw [show (bigSep (M := 𝕄) (I := Fin cfg0.W) Finset.univ) = (bigSep (M := 𝕄) (I := Fin 6) Finset.univ) from rfl, bigSep_W0, bigSep_W0]
  simp only [owns_whole_eq]
  show bodyPre m ρ c ⊢ wpc c (cc0_body (F := F) xM (Memref.isWhole_whole _) wqM (Memref.isWhole_whole _) kM (Memref.isWhole_whole _) vM (Memref.isWhole_whole _) woM (Memref.isWhole_whole _) outM (Memref.isWhole_whole _) kvM (Memref.isWhole_whole _) cc0_scratch1 cc0_scratch2) (fun _ => bodyPost m ρ c)
  exact body_pre m ρ c

/-! ## The tokens -/

theorem ownSemFacts : Pipeline.OwnSemFacts cfg0.spec osem := by decide

theorem share_eq (c : Dev nD) (w : Fin cfg0.W) : (dats m ρ 0 c).share w = fullShare := by unfold Pipeline.Dat.share; split <;> rfl

def allCells : Finset (GSem nD τ sig) := Finset.univ.map ⟨kcell, kcell_injective⟩

/-- The duty tokens of a device's own cells as minted: those of its barrier, of its sends, of its receives. -/
abbrev tokOf (cj : Dev nD × Fin 3 × Fin 7) : GSem nD τ sig × ℕ × Fin 7 := match cj.2.1 with
  | 0 => (barCell cj.1, 0, cj.2.2) | 1 => (sendCell cj.1 cj.2.2, 0, 0) | 2 => (recvCell cj.1 cj.2.2, 0, 0)

theorem tokKind_injective : Function.Injective (fun j : Fin 3 × Fin 7 => ((tokOf (0, j)).1.2, (tokOf (0, j)).2.2)) := by decide
theorem tokOf_injective : Function.Injective (tokOf : Dev nD × Fin 3 × Fin 7 → GSem nD τ sig × ℕ × Fin 7) := by
  have hk : ∀ (c : Dev nD) (j : Fin 3 × Fin 7), (tokOf (c, j)).1.1.1 = c ∧ ((tokOf (c, j)).1.2, (tokOf (c, j)).2.2) = ((tokOf (0, j)).1.2, (tokOf (0, j)).2.2) := by
    rintro c ⟨k, j⟩; fin_cases k <;> exact ⟨rfl, rfl⟩
  rintro ⟨c, j⟩ ⟨d, i⟩ h
  have h1 : c = d := by rw [← (hk c j).1, h, (hk d i).1]
  have h2 : j = i := tokKind_injective ((hk c j).2.symm.trans ((congrArg (fun x => (x.1.2, x.2.2)) h).trans (hk d i).2))
  rw [h1, h2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun j : Fin 7 => dutyTok ER (barCell c) 0 j) ∗ (bigSep Finset.univ fun j : Fin 7 => dutyTok ER (sendCell c j) 0 0)
    ∗ (bigSep Finset.univ fun j : Fin 7 => dutyTok ER (recvCell c j) 0 0))

def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)
def G' (c : Dev nD) : sProp 𝕄 := iprop(∃ K, ghost m K c)

theorem fin3 (Φ : Fin 3 → sProp 𝕄) : bigSep Finset.univ Φ = iprop(Φ 0 ∗ Φ 1 ∗ Φ 2) := bigSep_univ_eq_bigSepL [0, 1, 2] (by decide) (by decide) Φ

theorem cells_bigSep (Φ : GSem nD τ sig → sProp 𝕄) :
    bigSep allCells Φ = bigSep Finset.univ fun c : Dev nD => bigSep Finset.univ fun k : Fin 15 => Φ (kcell (c, k)) := by
  unfold allCells; rw [bigSep_map, bigSep_univ_prod]; rfl
theorem toks_bigSep : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_prod, fin3]; rfl

theorem fund : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (cells_bigSep fun g => roundState ER (Rd m) g 0)) $$ Hst
  ihave Hat' := (Entails.of_eq (cells_bigSep (F := F) fun g => atPos ER g 0 ∅ 0)) $$ Hat
  ihave Hr' := (Entails.of_eq (cells_bigSep (F := F) fun g => reached ER g 0)) $$ Hr
  ihave Htok' := (Entails.of_eq (toks_bigSep (F := F))) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun j : Fin 7 => semVal (recvCell c j) 0)) := by
  rw [Pipeline.ownSems0_eq_of_list c osem [0, 1, 2, 3, 4, 5, 6, 7, 8, 9, 10, 11, 12, 13] (by decide) (by decide), bigSep_fin7, bigSep_fin7]
  refine Entails.antisymm (show iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) ⊢ _ from ?_) (show _ ⊢ iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) from ?_)
  · iintro ⟨S0, S1, S2, S3, S4, S5, S6, R0, R1, R2, R3, R4, R5, R6⟩
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [R0]; · iexact R0
    isplitl [R1]; · iexact R1
    isplitl [R2]; · iexact R2
    isplitl [R3]; · iexact R3
    isplitl [R4]; · iexact R4
    isplitl [R5]; · iexact R5
    iexact R6
  · iintro ⟨⟨S0, S1, S2, S3, S4, S5, S6⟩, R0, R1, R2, R3, R4, R5, R6⟩
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [R0]; · iexact R0
    isplitl [R1]; · iexact R1
    isplitl [R2]; · iexact R2
    isplitl [R3]; · iexact R3
    isplitl [R4]; · iexact R4
    isplitl [R5]; · iexact R5
    iexact R6
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, fin15, bigSep_fin7, bigSep_fin7]
  iintro ⟨⟨⟨S0, S1, S2, S3, S4, S5, S6⟩, R0, R1, R2, R3, R4, R5, R6⟩, HB⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R0]; · iexact R0
  isplitl [R1]; · iexact R1
  isplitl [R2]; · iexact R2
  isplitl [R3]; · iexact R3
  isplitl [R4]; · iexact R4
  isplitl [R5]; · iexact R5
  iexact R6

theorem alloc (c : Dev nD) :
    iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (alloc m c) $$ [Hv Hst] with Hinv
  · isplitl [Hv] <;> iassumption
  imodintro
  isplitl [Hinv]; · iexact Hinv
  isplitl [Hat]; · iexact Hat
  iexact Htok

/-- The signal tokens of device `c`'s barrier go to the devices that signal it. -/
def sigE : Dev nD × Fin 7 ≃ Dev nD × Fin 7 where
  toFun x := (peer x.1 x.2, x.2.rev)
  invFun x := (peer x.1 x.2, x.2.rev)
  left_inv := fun ⟨c, j⟩ => by show (peer (peer c j) j.rev, j.rev.rev) = _; rw [peer_rev, Fin.rev_rev]
  right_inv := fun ⟨c, j⟩ => by show (peer (peer c j) j.rev, j.rev.rev) = _; rw [peer_rev, Fin.rev_rev]
/-- The receive tokens to the devices that copy there. -/
def recvE : Dev nD × Fin 7 ≃ Dev nD × Fin 7 where
  toFun x := (peer x.1 x.2, x.2)
  invFun x := (peer x.1 x.2.rev, x.2)
  left_inv := fun ⟨c, j⟩ => by show (peer (peer c j) j.rev, j) = _; rw [peer_rev]
  right_inv := fun ⟨c, j⟩ => by show (peer (peer c j.rev) j, j) = _; rw [peer_rev']

theorem sig_around : (bigSep Finset.univ fun c : Dev nD => bigSep Finset.univ fun j : Fin 7 => (dutyTok ER (barCell c) 0 j : sProp 𝕄))
    = bigSep Finset.univ fun c : Dev nD => bigSep Finset.univ fun j : Fin 7 => sigTok c j := by
  rw [← bigSep_univ_prod (fun x : Dev nD × Fin 7 => (dutyTok ER (barCell x.1) 0 x.2 : sProp 𝕄)),
    bigSep_univ_equiv sigE (fun x : Dev nD × Fin 7 => (dutyTok ER (barCell x.1) 0 x.2 : sProp 𝕄)),
    bigSep_univ_prod]
  rfl
theorem recv_around : (bigSep Finset.univ fun c : Dev nD => bigSep Finset.univ fun j : Fin 7 => (dutyTok ER (recvCell c j) 0 0 : sProp 𝕄))
    = bigSep Finset.univ fun c : Dev nD => bigSep Finset.univ fun j : Fin 7 => dutyTok ER (recvCell (peer c j) j) 0 0 := by
  rw [← bigSep_univ_prod (fun x : Dev nD × Fin 7 => (dutyTok ER (recvCell x.1 x.2) 0 0 : sProp 𝕄)),
    bigSep_univ_equiv recvE (fun x : Dev nD × Fin 7 => (dutyTok ER (recvCell x.1 x.2) 0 0 : sProp 𝕄)),
    bigSep_univ_prod]
  rfl

theorem toks_around : (bigSep Finset.univ fun c : Dev nD => (toks c : sProp 𝕄)) ⊢ bigSep Finset.univ fun c : Dev nD => payToks c := by
  unfold toks payToks copyTok
  simp only [bigSep_sep']
  rw [sig_around, recv_around]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) :
    iprop(records m K ∗ (bigSep Finset.univ fun k : Fin 15 => atPos ER (kcell (c, k)) 0 ∅ 0) ∗ payToks c) ⊢ G' m c := by
  unfold G' ghost
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_ne_bar (j : Fin 7) : (SemLoc.dma (recvS j) : SemLoc sig) ≠ .reg barS := fun h => by cases h
theorem recvS_inj : Function.Injective (fun j : Fin 7 => (SemLoc.dma (recvS j) : SemLoc sig)) := by decide
theorem recv_eq_iff {a b : Dev nD} {i j : Fin 7} : Iff (recvCell a i = recvCell b j) (a = b ∧ i = j) :=
  ⟨fun h => ⟨congrArg (fun g : GSem nD τ sig => g.1.1) h, recvS_inj (congrArg Prod.snd h)⟩, fun h => by rw [h.1, h.2]⟩
theorem peer_iff (c d : Dev nD) (j : Fin 7) : Iff (c = peer d j) (d = peer c j.rev) :=
  ⟨fun h => by rw [h, peer_rev], fun h => by rw [h, peer_rev']⟩

theorem owed_bar (d c : Dev nD) : O₀ d (barCell c) () = ∑ j : Fin 7, if d = peer c j.rev then 1 else 0 := by
  unfold O₀
  rw [Pi.add_apply, Finsupp.add_apply, OSend_apply, OBar_apply, Finset.sum_eq_zero fun j _ => if_neg fun h => recv_ne_bar j (congrArg Prod.snd h.2).symm, zero_add]
  exact Finset.sum_congr rfl fun j _ => if_congr ⟨fun h => (peer_iff c d j).mp (bar_eq_iff.mp h.2), fun h => ⟨Nat.zero_le _, bar_eq_iff.mpr ((peer_iff c d j).mpr h)⟩⟩ rfl rfl
theorem owed_recv (d c : Dev nD) (j : Fin 7) : O₀ d (recvCell c j) () = if d = peer c j.rev then N else 0 := by
  unfold O₀
  rw [Pi.add_apply, Finsupp.add_apply, OSend_apply, OBar_apply,
    Finset.sum_eq_zero (f := fun i : Fin 7 => if 0 ≤ i.val ∧ recvCell c j = barCell (peer d i) then 1 else 0) fun i _ => if_neg fun h => recv_ne_bar j (congrArg Prod.snd h.2), add_zero]
  rw [Finset.sum_congr rfl fun i _ => show (if 0 ≤ i.val ∧ recvCell c j = recvCell (peer d i) i then N else 0) = if i = j then (if d = peer c j.rev then N else 0) else 0 from ?_,
    Finset.sum_ite_eq' Finset.univ j fun _ => _, if_pos (Finset.mem_univ _)]
  by_cases h : i = j
  · subst h
    rw [if_pos rfl]
    exact if_congr ⟨fun h => (peer_iff c d i).mp (recv_eq_iff.mp h.2).1, fun h => ⟨Nat.zero_le _, recv_eq_iff.mpr ⟨(peer_iff c d i).mpr h, rfl⟩⟩⟩ rfl rfl
  · rw [if_neg h, if_neg fun h' => h (recv_eq_iff.mp h'.2).2.symm]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (peer c (Fin.rev j)) fun _ => 1).trans (if_pos (Finset.mem_univ _))]
  rfl
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer c j.rev) fun _ => N,
    if_pos (Finset.mem_univ _)]

theorem creds (c : Dev nD) :
    (Pipeline.launchCred O₀ c : sProp 𝕄) ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  have hsub : (Finset.univ.map ⟨fun j : Fin 7 => (SemLoc.dma (recvS j) : SemLoc sig), recvS_inj⟩) ⊆ Finset.univ.erase (SemLoc.reg barS) := by
    intro x hx
    obtain ⟨j, _, rfl⟩ := Finset.mem_map.mp hx
    exact Finset.mem_erase.mpr ⟨recv_ne_bar j, Finset.mem_univ _⟩
  refine (bigSep_subset hsub).trans ?_
  rw [bigSep_map]
  exact bigSep_mono fun j _ => Entails.of_eq (congrArg cred (launch_recv c j))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (KV m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution terminates, with the
    arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Frames.lean ====
module

public import proofs.«01_k».proof.Proof.Launch
public import proofs.«01_k».proof.Proof.Gen.ReferenceIdeal.Run

/-! What the programs leave behind: every run ends with its arguments as they were and its counters at zero. -/

@[expose] public section

noncomputable section

namespace Cert.Attn

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The launch's arrays, one by one: the result holds what the launch's last point leaves, the arguments what they
    held before. -/
theorem run_values : θ_run defs (onTc (τ := τ) (main (F := F))) (s₀ m ρ) (fun r =>
    (∀ c : Dev nD, r.2.mem ((c : Thread nD τ).loc main_v1) = finalA m ρ c (5 : Fin 6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  refine (θ_run defs _ _).mono (fun r h => ⟨fun c => ⟨h.1 c (5 : Fin 6), ?_, ?_, ?_, ?_, ?_⟩, h.2⟩) (run_main m ρ)
  · exact (h.1 c (0 : Fin 6)).trans ((dats m ρ 0 c).arrAt_in (0 : Fin 6) rfl _)
  · exact (h.1 c (1 : Fin 6)).trans ((dats m ρ 0 c).arrAt_in (1 : Fin 6) rfl _)
  · exact (h.1 c (2 : Fin 6)).trans ((dats m ρ 0 c).arrAt_in (2 : Fin 6) rfl _)
  · exact (h.1 c (3 : Fin 6)).trans ((dats m ρ 0 c).arrAt_in (3 : Fin 6) rfl _)
  · exact (h.1 c (4 : Fin 6)).trans ((dats m ρ 0 c).arrAt_in (4 : Fin 6) rfl _)

/-- The same run, the result forgotten. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c => (h.1 c).2, h.2⟩) (run_values m ρ)

end Cert.Attn

end
-- ==== Proof.Chunk.lean ====
/-
# The values the body computes, in closed form

The body meets eight chunks of keys and values, and for each batch entry and each head adds a numerator and a
denominator to what it has. Here the two running sums are one recursion over the chunks, and the two blocks of the
result are read off its last step.
-/
module

public import proofs.«01_k».proof.Proof.Body

@[expose] public section

set_option maxRecDepth 65536

noncomputable section

namespace Cert.Attn

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ)

/-- A head's columns lie inside the 256. -/
theorem head_slices : ∀ h : Fin 4, S256x256.Slices ![0, 64 * h.val] S256x64 := by decide

/-- The columns of head `h`. -/
def head (h : Fin 4) (v : FVec F S256x256 .bf16) : FVec F S256x64 .bf16 :=
  extractStridedSlice S256x64 ![0, 64 * h.val] v (head_slices h)

/-- A chunk's weights for one head: the exponential of the scores inside the mask, zero outside. -/
def wts (mask : IVec S256x256 1) (h : Fin 4) (q k : FVec F S256x256 .bf16) : FVec F S256x256 .f32 :=
  select mask (exp (matmul dot_S256x64_S256x64_S256x256_1_1_0_0_n_n none (head h q) (head h k) (constant S256x256 .f32 0x00000000#32)))
    (broadcast S256x256 (Scalar.ofBits .f32 0x00000000#32))

/-- The chunk's part of the denominator. -/
def denPart (mask : IVec S256x256 1) (h : Fin 4) (q k : FVec F S256x256 .bf16) : FVec F S256x1 .f32 :=
  shapeCast S256x1 (multiReduction .add [1] S256 (wts mask h q k) 0x00000000#32 reduces_S256x256_S256 (.inl rfl) rfl) shapeCasts_S256_S256x1

/-- The chunk's part of the numerator. -/
def accPart (mask : IVec S256x256 1) (h : Fin 4) (q k v : FVec F S256x256 .bf16) : FVec F S256x64 .f32 :=
  matmul dot_S256x256_S256x64_S256x64_1_0_0_1_n_n none (truncf .bf16 (wts mask h q k) bitsLt_bf16_f32) (head h v) (constant S256x64 .f32 0x00000000#32)

/-- The quantised tile `k` (keys or values) of device `p`, batch entry `b`, as numbers. -/
def tile (p : Dev nD) (k b : Fin 2) : FVec F S256x256 .bf16 :=
  sitofp .bf16 (shapeCast S256x256 (quant m p k b : IVec S1x1x1x256x256 8) shapeCasts_S1x1x1x256x256_S256x256 : IVec S256x256 8)

/-- The queries of batch entry `b`. -/
def qry (c : Dev nD) (b : Fin 2) : FVec F S256x256 .bf16 := match b with
  | 0 => w242 m c
  | 1 => w246 m c

/-- The denominator after the chunks `0 … d`. -/
def den (c : Dev nD) (b : Fin 2) (h : Fin 4) : ℕ → FVec F S256x1 .f32
  | 0 => denPart (w230 m c) h (qry m c b) (tile m (src c 0) 0 b)
  | d + 1 => addf (den c b h d) (denPart (w230 m c) h (qry m c b) (tile m (src c (Fin.ofNat 8 (d + 1))) 0 b))

/-- The numerator after the chunks `0 … d`. -/
def acc (c : Dev nD) (b : Fin 2) (h : Fin 4) : ℕ → FVec F S256x64 .f32
  | 0 => accPart (w230 m c) h (qry m c b) (tile m (src c 0) 0 b) (tile m (src c 0) 1 b)
  | d + 1 => addf (acc c b h d) (accPart (w230 m c) h (qry m c b) (tile m (src c (Fin.ofNat 8 (d + 1))) 0 b) (tile m (src c (Fin.ofNat 8 (d + 1))) 1 b))

/-- The head's context: numerator over denominator. -/
def ctxh (c : Dev nD) (b : Fin 2) (h : Fin 4) : FVec F S256x64 .bf16 :=
  truncf .bf16 (divf (acc m c b h 7) (broadcastTo S256x64 (den m c b h 7) broadcasts_S256x1_S256x64)) bitsLt_bf16_f32

/-- The block of the result for batch entry `b`: the four heads side by side, times the output weights. -/
def outC (c : Dev nD) (b : Fin 2) : FVec F S1x256x512 .f32 :=
  shapeCast S1x256x512 (matmul dot_S256x256_S256x512_S256x512_1_0_0_1_n_n none
    (concatenate S256x256 1 [⟨S256x64, ctxh m c b 0⟩, ⟨S256x64, ctxh m c b 1⟩, ⟨S256x64, ctxh m c b 2⟩, ⟨S256x64, ctxh m c b 3⟩]
      concatenates_S256x64_S256x64_S256x64_S256x64_S256x256_d1)
    (w238 m c) (constant S256x512 .f32 0x00000000#32)) shapeCasts_S256x512_S1x256x512

theorem outA_eq (c : Dev nD) : outA m c = outC m c 0 := rfl

theorem outB_eq (c : Dev nD) : outB m c = outC m c 1 := rfl

end Cert.Attn

end
-- ==== Proof.Arrays.lean ====
/-
# The arrays behind the staged inputs and the result

Every window of the kernel is a whole array, so a staged input is the argument itself, a batch entry read from it is
a slice of the argument, and the result array ends as the block the body left.
-/
module

public import proofs.«01_k».proof.Proof.Chunk
public import proofs.«01_k».proof.Proof.Launch
public import Idealize.ShloMosaic.Lib.Pointwise

@[expose] public section

set_option maxRecDepth 65536

noncomputable section

namespace Cert.Attn

open Cert.KernelIdeal Cert.KernelIdeal.Gen

open Idealize.ShloMosaic
open Idealize.ShloMosaic.TcCoe
open Idealize.SL.Sem

variable {F : FTy → Type}
variable (m : (ℓ : Loc nD τ sig) → Buf (Elt F) ℓ)

theorem stg0_eq (c : Dev nD) : stg0 m c = m ((c : Thread nD τ).loc main_arg0) := by
  funext x
  refine congrArg (m ((c : Thread nD τ).loc main_arg0)) (funext fun a => Fin.ext ?_)
  show (0 : ℕ) * _ + 1 * _ = _
  simp

theorem stg1_eq (c : Dev nD) : stg1 m c = m ((c : Thread nD τ).loc main_arg1) := by
  funext x
  refine congrArg (m ((c : Thread nD τ).loc main_arg1)) (funext fun a => Fin.ext ?_)
  show (0 : ℕ) * _ + 1 * _ = _
  simp

theorem stg2_eq (c : Dev nD) : stg2 m c = m ((c : Thread nD τ).loc main_arg2) := by
  funext x
  refine congrArg (m ((c : Thread nD τ).loc main_arg2)) (funext fun a => Fin.ext ?_)
  show (0 : ℕ) * _ + 1 * _ = _
  simp

theorem stg3_eq (c : Dev nD) : stg3 m c = m ((c : Thread nD τ).loc main_arg3) := by
  funext x
  refine congrArg (m ((c : Thread nD τ).loc main_arg3)) (funext fun a => Fin.ext ?_)
  show (0 : ℕ) * _ + 1 * _ = _
  simp

theorem stg4_eq (c : Dev nD) : stg4 m c = m ((c : Thread nD τ).loc main_arg4) := by
  funext x
  refine congrArg (m ((c : Thread nD τ).loc main_arg4)) (funext fun a => Fin.ext ?_)
  show (0 : ℕ) * _ + 1 * _ = _
  simp

/-! ## The arguments by their coordinates -/

/-- Device `c`'s rows of the input. -/
def xE (c : Dev nD) (b : Fin 2) (i : Fin 256) (k : Fin 512) : F .bf16 :=
  m ((c : Thread nD τ).loc main_arg0) (ix3 b i k : S2x256x512.Idx)
/-- The query weights. -/
def wqE (c : Dev nD) (k : Fin 512) (t : Fin 256) : F .bf16 :=
  m ((c : Thread nD τ).loc main_arg1) (ix2 k t : S512x256.Idx)
/-- Device `c`'s keys. -/
def kE (c : Dev nD) (b : Fin 2) (j : Fin 256) (h : Fin 4) (e : Fin 64) : F .bf16 :=
  m ((c : Thread nD τ).loc main_arg2) (ix4 b j h e : S2x256x4x64.Idx)
/-- Device `c`'s values. -/
def vE (c : Dev nD) (b : Fin 2) (j : Fin 256) (h : Fin 4) (e : Fin 64) : F .bf16 :=
  m ((c : Thread nD τ).loc main_arg3) (ix4 b j h e : S2x256x4x64.Idx)
/-- The output weights. -/
def woE (c : Dev nD) (t : Fin 256) (n : Fin 512) : F .bf16 :=
  m ((c : Thread nD τ).loc main_arg4) (ix2 t n : S256x512.Idx)

theorem ldX0_apply (c : Dev nD) (i : Fin 256) (k : Fin 512) : ldX0 m c (ix3 0 i k) = xE m c 0 i k := by
  unfold ldX0; rw [stg0_eq]
  refine congrArg (m ((c : Thread nD τ).loc main_arg0)) (funext fun a => Fin.ext ?_)
  fin_cases a <;> first | rfl | exact (Nat.zero_add _).trans (Nat.one_mul _)

theorem ldX1_apply (c : Dev nD) (i : Fin 256) (k : Fin 512) : ldX1 m c (ix3 0 i k) = xE m c 1 i k := by
  unfold ldX1; rw [stg0_eq]
  refine congrArg (m ((c : Thread nD τ).loc main_arg0)) (funext fun a => Fin.ext ?_)
  fin_cases a <;> first | rfl | exact (Nat.zero_add _).trans (Nat.one_mul _)

theorem ldWq_apply (c : Dev nD) (k : Fin 512) (t : Fin 256) : ldWq m c (ix2 k t) = wqE m c k t := by
  unfold ldWq; rw [stg1_eq]
  refine congrArg (m ((c : Thread nD τ).loc main_arg1)) (funext fun a => Fin.ext ?_)
  fin_cases a <;> first | rfl | exact (Nat.zero_add _).trans (Nat.one_mul _)

theorem ldWo_apply (c : Dev nD) (t : Fin 256) (n : Fin 512) : ldWo m c (ix2 t n) = woE m c t n := by
  unfold ldWo; rw [stg4_eq]
  refine congrArg (m ((c : Thread nD τ).loc main_arg4)) (funext fun a => Fin.ext ?_)
  fin_cases a <;> first | rfl | exact (Nat.zero_add _).trans (Nat.one_mul _)

theorem ldK0_apply (c : Dev nD) (j : Fin 256) (h : Fin 4) (e : Fin 64) : ldK0 m c (ix4 0 j h e) = kE m c 0 j h e := by
  unfold ldK0; rw [stg2_eq]
  refine congrArg (m ((c : Thread nD τ).loc main_arg2)) (funext fun a => Fin.ext ?_)
  fin_cases a <;> first | rfl | exact (Nat.zero_add _).trans (Nat.one_mul _)

theorem ldK1_apply (c : Dev nD) (j : Fin 256) (h : Fin 4) (e : Fin 64) : ldK1 m c (ix4 0 j h e) = kE m c 1 j h e := by
  unfold ldK1; rw [stg2_eq]
  refine congrArg (m ((c : Thread nD τ).loc main_arg2)) (funext fun a => Fin.ext ?_)
  fin_cases a <;> first | rfl | exact (Nat.zero_add _).trans (Nat.one_mul _)

theorem ldV0_apply (c : Dev nD) (j : Fin 256) (h : Fin 4) (e : Fin 64) : ldV0 m c (ix4 0 j h e) = vE m c 0 j h e := by
  unfold ldV0; rw [stg3_eq]
  refine congrArg (m ((c : Thread nD τ).loc main_arg3)) (funext fun a => Fin.ext ?_)
  fin_cases a <;> first | rfl | exact (Nat.zero_add _).trans (Nat.one_mul _)

theorem ldV1_apply (c : Dev nD) (j : Fin 256) (h : Fin 4) (e : Fin 64) : ldV1 m c (ix4 0 j h e) = vE m c 1 j h e := by
  unfold ldV1; rw [stg3_eq]
  refine congrArg (m ((c : Thread nD τ).loc main_arg3)) (funext fun a => Fin.ext ?_)
  fin_cases a <;> first | rfl | exact (Nat.zero_add _).trans (Nat.one_mul _)

/-! ## The result array -/

variable [FloatOps F] (ρ : Dev nD → PrngReg)

theorem out_emb (t : Fin cfg0.N) (i : S2x256x512.Idx) : ((cfg0.win (5 : Fin 6)).blk t).view.emb i = i := by
  refine funext fun a => Fin.ext ?_
  fin_cases t
  show (0 : ℕ) * _ + 1 * _ = _
  simp

theorem final_out (c : Dev nD) : finalA m ρ c (5 : Fin 6) = outF m c := by
  refine (dats m ρ 0 c).arrAt_eq_of_cover (5 : Fin 6) (outF m c) (fun t _ => ?_) (fun i => ⟨t0_0, flush0_5 _, ?_⟩)
  · funext x
    exact congrArg (outF m c) (out_emb t x).symm
  · have := ((cfg0.win (5 : Fin 6)).blk t0_0).view.emb_mem_set i
    rwa [out_emb t0_0 i] at this

end Cert.Attn

end
-- ==== Proof.RefParts.lean ====
/-
# The reference, in pieces

The reference's result is one long term of the arguments. Here its pieces have names: the quantiser, the mask and its
rows, the queries, the masked scores, the weights, the context. The result is those pieces put together.
-/
module

public import proofs.«01_k».proof.Proof.Gen.ReferenceIdeal.Run

@[expose] public section

set_option maxRecDepth 65536

noncomputable section

namespace Cert.AttnRef

open Cert.ReferenceIdeal Cert.ReferenceIdeal.Gen Cert.ReferenceIdeal.Value

open Idealize.ShloMosaic
open Idealize.ShloMosaic.TcCoe
open Idealize.SL.Sem

variable {F : FTy → Type} [FloatOps F]

/-- Clip, scale, round and scale back. -/
def rQuant (t : FVec F S2x2048x4x64 .bf16) : FVec F S2x2048x4x64 .f32 :=
  extf .f32 (mulf (Host.roundeven (mulf (minimumf
      (broadcastInDim S2x2048x4x64 ![] bcast_S_S2x2048x4x64 (truncf .bf16 (constant S_ .f32 0x40A00000#32) bitsLt_bf16_f32))
      (maximumf (broadcastInDim S2x2048x4x64 ![] bcast_S_S2x2048x4x64 (truncf .bf16 (constant S_ .f32 0xC0A00000#32) bitsLt_bf16_f32)) t))
    (broadcastInDim S2x2048x4x64 ![] bcast_S_S2x2048x4x64 (constant S_ .bf16 0x41CB#16))))
    (broadcastInDim S2x2048x4x64 ![] bcast_S_S2x2048x4x64 (constant S_ .bf16 0x3D21#16))) bitsLt_bf16_f32

/-- The block of 64 each position lies in. -/
def rBlk : IVec S2048 32 :=
  select (andi
      (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The divisor 4, guarded against zero. -/
def rFour : IVec S_ 32 :=
  select (cmpi .eq (id (constantI S_ 32 4#32)) (constantI S_ 32 0#32)) (constantI S_ 32 1#32) (id (constantI S_ 32 4#32))

def rRow : IVec S1x2048 32 := broadcastInDim S1x2048 ![1] bcast_S2048_S1x2048_1 rBlk
def rCol : IVec S2048x1 32 := broadcastInDim S2048x1 ![0] bcast_S2048_S2048x1_0 rBlk
def rRowRem : IVec S1x2048 32 := Host.remsi rRow (broadcastInDim S1x2048 ![] bcast_S_S1x2048 rFour)
def rColRem : IVec S2048x1 32 := Host.remsi rCol (broadcastInDim S2048x1 ![] bcast_S_S2048x1 rFour)

/-- The block modulo 4, along a row and along a column. -/
def rRowMod : IVec S1x2048 32 :=
  select (andi (cmpi .ne (cmpi .slt rRowRem (broadcastInDim S1x2048 ![] bcast_S_S1x2048 (constantI S_ 32 0#32)))
      (broadcastInDim S1x2048 ![] bcast_S_S1x2048 (cmpi .slt rFour (constantI S_ 32 0#32))))
    (cmpi .ne rRowRem (broadcastInDim S1x2048 ![] bcast_S_S1x2048 (constantI S_ 32 0#32))))
    (addi rRowRem (broadcastInDim S1x2048 ![] bcast_S_S1x2048 rFour)) rRowRem
def rColMod : IVec S2048x1 32 :=
  select (andi (cmpi .ne (cmpi .slt rColRem (broadcastInDim S2048x1 ![] bcast_S_S2048x1 (constantI S_ 32 0#32)))
      (broadcastInDim S2048x1 ![] bcast_S_S2048x1 (cmpi .slt rFour (constantI S_ 32 0#32))))
    (cmpi .ne rColRem (broadcastInDim S2048x1 ![] bcast_S_S2048x1 (constantI S_ 32 0#32))))
    (addi rColRem (broadcastInDim S2048x1 ![] bcast_S_S2048x1 rFour)) rColRem

/-- The mask: one block, or blocks equal modulo 4. -/
def rMask : IVec S2048x2048 1 :=
  ori (cmpi .eq (broadcastInDim S2048x2048 ![0, 1] bcast_S2048x1_S2048x2048_0_1 rCol)
      (broadcastInDim S2048x2048 ![0, 1] bcast_S1x2048_S2048x2048_0_1 rRow))
    (cmpi .eq (broadcastInDim S2048x2048 ![0, 1] bcast_S1x2048_S2048x2048_0_1 rRowMod)
      (broadcastInDim S2048x2048 ![0, 1] bcast_S2048x1_S2048x2048_0_1 rColMod))

/-- The rows with some position in the mask. -/
def rKeep : IVec S2048 1 := Host.reduce IntOp.ori rMask (constantI S_ 1 0#1) reducesTo_S2048x2048_S2048_d1 h_S_

/-- The queries. -/
def rQ (X : FVec F S2x2048x512 .bf16) (Wq : FVec F S512x256 .bf16) : FVec F S2x2048x4x64 .f32 :=
  shapeCast _ (Host.dotGeneral dot_S2x2048x512_S512x256_S2x2048x256_2_0_01_1_n_n none
    (extf .f32 X bitsLt_bf16_f32) (extf .f32 Wq bitsLt_bf16_f32)) shapeCasts_S2x2048x256_S2x2048x4x64

/-- The scores, `-∞` outside the mask. -/
def rScores (mask : IVec S2048x2048 1) (q k : FVec F S2x2048x4x64 .f32) : FVec F S2x4x2048x2048 .f32 :=
  select (broadcastInDim S2x4x2048x2048 ![0, 1, 2, 3] bcast_S1x1x2048x2048_S2x4x2048x2048_0_1_2_3
      (broadcastInDim S1x1x2048x2048 ![2, 3] bcast_S2048x2048_S1x1x2048x2048_2_3 mask))
    (mulf (Host.dotGeneral dot_S2x2048x4x64_S2x2048x4x64_S2x4x2048x2048_3_3_1_1_02_02 none q k)
      (broadcastInDim S2x4x2048x2048 ![] bcast_S_S2x4x2048x2048 (constant S_ .f32 0x3E000000#32)))
    (broadcastInDim S2x4x2048x2048 ![] bcast_S_S2x4x2048x2048 (id (constant S_ .f32 0xFF800000#32)))

/-- Each row's greatest score. -/
def rMax (s : FVec F S2x4x2048x2048 .f32) : FVec F S2x4x2048 .f32 :=
  Host.reduce FloatOps.maximumf s (constant S_ .f32 0xFF800000#32) reducesTo_S2x4x2048x2048_S2x4x2048_d3 h_S_

/-- The exponentials of the scores above the row's greatest. -/
def rExp (s : FVec F S2x4x2048x2048 .f32) : FVec F S2x4x2048x2048 .f32 :=
  Host.exp (subf s (broadcastInDim S2x4x2048x2048 ![0, 1, 2, 3] bcast_S2x4x2048x1_S2x4x2048x2048_0_1_2_3
    (broadcastInDim S2x4x2048x1 ![0, 1, 2] bcast_S2x4x2048_S2x4x2048x1_0_1_2 (rMax s))))

/-- The weights of a row: its exponentials over their sum. -/
def rW (keep : IVec S2048 1) (w : FVec F S2x4x2048x2048 .f32) : FVec F S2x4x2048x2048 .f32 :=
  select (broadcastInDim S2x4x2048x2048 ![0, 1, 2, 3] bcast_S1x1x2048x1_S2x4x2048x2048_0_1_2_3 (broadcastInDim S1x1x2048x1 ![2] bcast_S2048_S1x1x2048x1_2 keep))
    (Host.divf w (broadcastInDim S2x4x2048x2048 ![0, 1, 2, 3] bcast_S2x4x2048x1_S2x4x2048x2048_0_1_2_3
      (select (broadcastInDim S2x4x2048x1 ![0, 1, 2, 3] bcast_S1x1x2048x1_S2x4x2048x1_0_1_2_3 (broadcastInDim S1x1x2048x1 ![2] bcast_S2048_S1x1x2048x1_2 keep))
        (broadcastInDim S2x4x2048x1 ![0, 1, 2] bcast_S2x4x2048_S2x4x2048x1_0_1_2
          (Host.reduceAdd w (constant S_ .f32 0x00000000#32) reducesTo_S2x4x2048x2048_S2x4x2048_d3 h_S_))
        (broadcastInDim S2x4x2048x1 ![] bcast_S_S2x4x2048x1 (id (constant S_ .f32 0x3F800000#32))))))
    (broadcastInDim S2x4x2048x2048 ![] bcast_S_S2x4x2048x2048 (id (constant S_ .f32 0x00000000#32)))

/-- The context, times the output weights. -/
def rOut (w : FVec F S2x4x2048x2048 .f32) (v : FVec F S2x2048x4x64 .f32) (Wo : FVec F S256x512 .bf16) : FVec F S2x2048x512 .f32 :=
  Host.dotGeneral dot_S2x2048x256_S256x512_S2x2048x512_2_0_01_1_n_n none
    (shapeCast _ (transpose S2x2048x4x64 [0, 3, 1, 2]
      (Host.dotGeneral dot_S2x2048x4x64_S2x4x2048x2048_S2x4x64x2048_1_3_3_2_02_01 none v w)
      transposes_S2x4x64x2048_S2x2048x4x64_0_3_1_2) shapeCasts_S2x2048x4x64_S2x2048x256)
    (extf .f32 Wo bitsLt_bf16_f32)

def refOut (X : FVec F S2x2048x512 .bf16) (Wq : FVec F S512x256 .bf16) (K V : FVec F S2x2048x4x64 .bf16)
    (Wo : FVec F S256x512 .bf16) : FVec F S2x2048x512 .f32 :=
  rOut (rW rKeep (rExp (rScores rMask (rQ X Wq) (rQuant K)))) (rQuant V) Wo

theorem res_eq (m : (ℓ : Loc nD τ sig) → Buf (Elt F) ℓ) (c : Dev nD) :
    res_main_v56 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.AttnRef

end
-- ==== Proof.RefValue.lean ====
/-
# The reference's pieces, entry by entry

The mask says that two positions' blocks of 64 agree modulo 4, every row has its diagonal in it, and every other piece
is the expected sum, maximum or quotient of extended reals.
-/
module

public import proofs.«01_k».proof.Proof.RefParts
public import Idealize.ShloMosaic.Lib.Pointwise
public import Idealize.ShloMosaic.Lib.Routing.OpsOrder
public import Idealize.ShloMosaic.PureOps.Reduce

@[expose] public section

set_option maxRecDepth 65536

noncomputable section

namespace Cert.AttnRef

open Cert.ReferenceIdeal Cert.ReferenceIdeal.Gen

open Idealize.ShloMosaic
open Idealize.ShloMosaic.TcCoe
open Idealize.SL.Sem

/-- A selection by a condition bit. -/
theorem select_if {α : Type} (p : BitVec 1) (a b : α) : Scalar.select p a b = if p = 1#1 then a else b := by
  rcases BitVec.eq_zero_or_eq_one p with e | e <;> subst e <;> rfl

/-- The quantised value over the scale: clip, scale, round. -/
def rq (y : EReal) : EReal :=
  Ideal.liftRound Ideal.roundHalfEven
    (min (Ideal.ofBits .f32 0x40A00000#32) (max (Ideal.ofBits .f32 0xC0A00000#32) y) * Ideal.ofBits .bf16 0x41CB#16)

theorem rQuant_apply (t : FVec Ideal S2x2048x4x64 .bf16) (b : Fin 2) (j : Fin 2048) (h : Fin 4) (e : Fin 64) :
    rQuant t (ix4 b j h e) = rq (t (ix4 b j h e)) * Ideal.ofBits .bf16 0x3D21#16 := by
  unfold rQuant rq
  pointwise []

theorem rQ_apply (X : FVec Ideal S2x2048x512 .bf16) (Wq : FVec Ideal S512x256 .bf16) (b : Fin 2) (j : Fin 2048) (h : Fin 4) (e : Fin 64) :
    rQ X Wq (ix4 b j h e) = ∑ k : Fin 512, (X (ix3 b j k) : EReal) * Wq (ix2 k ⟨h * 64 + e, by omega⟩) := by
  unfold rQ
  pointwise [Ideal.ofBits_zero_f32]

theorem neg_inf : Ideal.ofBits .f32 0xFF800000#32 = ⊥ := by simp [Ideal.ofBits, Ideal.ieee]

theorem rScores_apply (mask : IVec S2048x2048 1) (q k : FVec Ideal S2x2048x4x64 .f32) (b : Fin 2) (h : Fin 4) (i j : Fin 2048) :
    rScores mask q k (ix4 b h i j)
      = if mask (ix2 i j) = 1#1 then (∑ e : Fin 64, (q (ix4 b i h e) : EReal) * k (ix4 b j h e)) * Ideal.ofBits .f32 0x3E000000#32 else ⊥ := by
  unfold rScores
  simp only [id_eq]
  pointwise [Ideal.ofBits_zero_f32]
  rw [select_if, neg_inf]

theorem rMax_apply (s : FVec Ideal S2x4x2048x2048 .f32) (b : Fin 2) (h : Fin 4) (i : Fin 2048) :
    rMax s (ix3 b h i) = (Finset.univ : Finset (Fin 2048)).fold max ⊥ (fun j => (s (ix4 b h i j) : EReal)) := by
  unfold rMax
  pointwise [neg_inf]

theorem rExp_apply (s : FVec Ideal S2x4x2048x2048 .f32) (b : Fin 2) (h : Fin 4) (i j : Fin 2048) :
    rExp s (ix4 b h i j) = Ideal.exp ((s (ix4 b h i j) : EReal) - rMax s (ix3 b h i)) := by
  unfold rExp
  pointwise []

theorem rW_apply (keep : IVec S2048 1) (w : FVec Ideal S2x4x2048x2048 .f32) (b : Fin 2) (h : Fin 4) (i j : Fin 2048)
    (hk : keep (ix1 i) = 1#1) :
    rW keep w (ix4 b h i j) = Ideal.div (w (ix4 b h i j)) (∑ x : Fin 2048, (w (ix4 b h i x) : EReal)) := by
  unfold rW
  simp only [id_eq]
  pointwise [Ideal.ofBits_zero_f32]
  rw [select_if, select_if, if_pos hk, if_pos hk]

theorem rOut_apply (w : FVec Ideal S2x4x2048x2048 .f32) (v : FVec Ideal S2x2048x4x64 .f32) (Wo : FVec Ideal S256x512 .bf16)
    (b : Fin 2) (i : Fin 2048) (n : Fin 512) :
    rOut w v Wo (ix3 b i n) = ∑ t : Fin 256, (∑ j : Fin 2048, (v (ix4 b j ⟨t / 64, by omega⟩ ⟨t % 64, by omega⟩) : EReal)
      * w (ix4 b ⟨t / 64, by omega⟩ i j)) * Wo (ix2 t n) := by
  unfold rOut
  pointwise [Ideal.ofBits_zero_f32]

/-! ## The mask -/

theorem rBlk_apply (j : Fin 2048) : rBlk (ix1 j) = BitVec.ofNat 32 (j / 64) := by
  unfold rBlk
  simp only [id_eq]
  pointwise []
  revert j
  decide +kernel

theorem rRowMod_apply (j : Fin 2048) : rRowMod (ix2 0 j) = BitVec.ofNat 32 (j / 64 % 4) := by
  unfold rRowMod rRowRem rFour rRow
  simp only [id_eq]
  pointwise []
  rw [rBlk_apply]
  have : ∃ n : Fin 32, n.val = j.val / 64 := ⟨⟨j / 64, by omega⟩, rfl⟩
  obtain ⟨n, e⟩ := this
  rw [← e]
  clear e
  revert n
  decide +kernel

theorem rColMod_apply (i : Fin 2048) : rColMod (ix2 i 0) = BitVec.ofNat 32 (i / 64 % 4) := by
  unfold rColMod rColRem rFour rCol
  simp only [id_eq]
  pointwise []
  rw [rBlk_apply]
  have : ∃ n : Fin 32, n.val = i.val / 64 := ⟨⟨i / 64, by omega⟩, rfl⟩
  obtain ⟨n, e⟩ := this
  rw [← e]
  clear e
  revert n
  decide +kernel

theorem rMask_apply (i j : Fin 2048) : rMask (ix2 i j) = 1#1 ↔ i.val / 64 % 4 = j.val / 64 % 4 := by
  have e : rMask (ix2 i j) = IntOp.ori (IntOp.cmpi .eq (BitVec.ofNat 32 (i / 64)) (BitVec.ofNat 32 (j / 64)))
      (IntOp.cmpi .eq (BitVec.ofNat 32 (j / 64 % 4)) (BitVec.ofNat 32 (i / 64 % 4))) := by
    unfold rMask rCol rRow
    pointwise []
    rw [rBlk_apply, rBlk_apply, rRowMod_apply, rColMod_apply]
  rw [e]
  have hn : ∃ n : Fin 32, n.val = i.val / 64 := ⟨⟨i / 64, by omega⟩, rfl⟩
  have hk : ∃ n : Fin 32, n.val = j.val / 64 := ⟨⟨j / 64, by omega⟩, rfl⟩
  obtain ⟨n, en⟩ := hn
  obtain ⟨k, ek⟩ := hk
  rw [← en, ← ek]
  clear e en ek
  revert n k
  decide +kernel

theorem rKeep_apply (i : Fin 2048) : rKeep (ix1 i) = 1#1 := by
  unfold rKeep
  generalize hm : rMask = mask
  pointwise []
  rw [Routing.fold_ori]
  exact ⟨i, Finset.mem_univ _, by rw [← hm]; exact (rMask_apply i i).mpr rfl⟩

end Cert.AttnRef

end
-- ==== Proof.Quant.lean ====
/-
# The constants and the quantiser as numbers

The words of the constants as reals, and the quantiser's two ends: what rounds to an integer between -127 and 127
passes through an eight-bit integer and back unchanged.
-/
module

public import proofs.«01_k».proof.Proof.RefValue

@[expose] public section

noncomputable section

namespace Cert.Attn

open Idealize.ShloMosaic
open Cert.AttnRef (rq)

theorem five : Ideal.ofBits .f32 0x40A00000#32 = ((5 : ℝ) : EReal) := by
  simp [Ideal.ofBits, Ideal.ieee, -EReal.coe_mul]; norm_num

theorem neg_five : Ideal.ofBits .f32 0xC0A00000#32 = ((-5 : ℝ) : EReal) := by
  simp [Ideal.ofBits, Ideal.ieee, -EReal.coe_mul, -EReal.coe_neg]; norm_num

theorem scale_up : Ideal.ofBits .bf16 0x41CB#16 = ((203 / 8 : ℝ) : EReal) := by
  simp [Ideal.ofBits, Ideal.ieee, -EReal.coe_mul]; norm_num

theorem scale_down : Ideal.ofBits .bf16 0x3D21#16 = ((161 / 4096 : ℝ) : EReal) := by
  simp [Ideal.ofBits, Ideal.ieee, -EReal.coe_mul]; norm_num

theorem scale_wq : Ideal.ofBits .bf16 0x3BA1#16 = ((161 / 32768 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

/-- Clipping any extended real to [-5, 5] leaves a real in it. -/
theorem clip_real (y : EReal) : ∃ r : ℝ, -5 ≤ r ∧ r ≤ 5 ∧ min ((5 : ℝ) : EReal) (max ((-5 : ℝ) : EReal) y) = (r : EReal) := by
  induction y using EReal.rec with
  | bot => exact ⟨-5, le_refl _, by norm_num, by rw [max_eq_left bot_le]; exact min_eq_right (by exact_mod_cast (by norm_num : (-5 : ℝ) ≤ 5))⟩
  | top => exact ⟨5, by norm_num, le_refl _, by rw [max_eq_right le_top]; exact min_eq_left le_top⟩
  | coe x =>
    refine ⟨min 5 (max (-5) x), le_min (by norm_num) (le_max_left _ _), min_le_left _ _, ?_⟩
    rw [EReal.coe_strictMono.monotone.map_min, EReal.coe_strictMono.monotone.map_max]

theorem round_bounds {r : ℝ} (h₁ : -127 ≤ r) (h₂ : r < 127) :
    -127 ≤ Ideal.roundHalfEven r ∧ Ideal.roundHalfEven r ≤ 127 := by
  have f₁ : -127 ≤ ⌊r⌋ := Int.le_floor.mpr (by exact_mod_cast h₁)
  have f₂ : ⌊r⌋ < 127 := Int.floor_lt.mpr (by exact_mod_cast h₂)
  unfold Ideal.roundHalfEven
  dsimp only
  split_ifs <;> omega

/-- The quantised value is an integer between -127 and 127. -/
theorem rq_int (y : EReal) : ∃ z : ℤ, -127 ≤ z ∧ z ≤ 127 ∧ rq y = ((z : ℝ) : EReal) := by
  obtain ⟨r, h₁, h₂, e⟩ := clip_real y
  unfold rq
  rw [five, neg_five, scale_up, e, ← EReal.coe_mul]
  have hb := round_bounds (r := r * (203 / 8)) (by nlinarith) (by nlinarith)
  exact ⟨_, hb.1, hb.2, rfl⟩

/-- Through an eight-bit integer and back. -/
theorem requant (y : EReal) : (((Ideal.fptosi 8 (rq y)).toInt : ℝ) : EReal) = rq y := by
  obtain ⟨z, h₁, h₂, e⟩ := rq_int y
  rw [e]
  have hz : (if (0 : ℝ) ≤ (z : ℝ) then ⌊(z : ℝ)⌋ else ⌈(z : ℝ)⌉) = z := by split <;> simp
  have : (Ideal.fptosi 8 (((z : ℝ)) : EReal)).toInt = z := by
    unfold Ideal.fptosi
    rw [Ideal.toIntClamped_coe, hz, BitVec.toInt_ofInt]
    rw [show max (-((2 ^ (8 - 1) : ℕ) : ℤ)) (min (((2 ^ (8 - 1) : ℕ) : ℤ) - 1) z) = z by omega]
    exact Int.bmod_eq_of_le (by omega) (by omega)
  rw [this]

end Cert.Attn

end
-- ==== Proof.KernelValue.lean ====
/-
# The kernel's values, entry by entry

Over the extended reals: the tiles are the quantised keys and values, a chunk's weights are exponentials of scores
inside the mask, the two running sums are sums over all the devices, and the result is the heads' quotients times the
output weights.
-/
module

public import proofs.«01_k».proof.Proof.Arrays
public import proofs.«01_k».proof.Proof.Quant

@[expose] public section

set_option maxRecDepth 65536

noncomputable section

namespace Cert.Attn

open Cert.KernelIdeal Cert.KernelIdeal.Gen

open Idealize.ShloMosaic
open Idealize.ShloMosaic.TcCoe
open Idealize.SL.Sem
open Cert.AttnRef (rq select_if)

variable (m : (ℓ : Loc nD τ sig) → Buf (Elt Ideal) ℓ)

/-! ## The mask -/

/-- A position's block of 64, as the kernel computes it. -/
def kBlk (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi ArithUnit.vector v 64#32) 0#32))
    (IntOp.subi (IntOp.divsi ArithUnit.vector v 64#32) 1#32)
    (IntOp.divsi ArithUnit.vector v 64#32)

theorem kBlk_apply : ∀ i : Fin 256, kBlk (BitVec.ofNat 32 i) = BitVec.ofNat 32 (i / 64) := by decide +kernel

theorem blk_eq : ∀ a b : Fin 4, IntOp.cmpi .eq (BitVec.ofNat 32 a) (BitVec.ofNat 32 b) = 1#1 ↔ a.val = b.val := by decide +kernel

theorem mask_apply (c : Dev nD) (i j : Fin 256) : w230 m c (ix2 i j) = 1#1 ↔ i.val / 64 = j.val / 64 := by
  have e : w230 m c (ix2 i j) = IntOp.cmpi .eq (kBlk (BitVec.ofNat 32 i)) (kBlk (BitVec.ofNat 32 j)) := by
    unfold w230 k0_pay11 w180 wc64_i32 w182 w189 w195 k0_pay8 k0_pay9 k0_pay10
    pointwise []
    rfl
  rw [e, kBlk_apply, kBlk_apply]
  exact blk_eq ⟨i / 64, by omega⟩ ⟨j / 64, by omega⟩

/-! ## The tiles and the queries -/

theorem tileK_apply (p : Dev nD) (b : Fin 2) (j t : Fin 256) :
    tile m p 0 b (ix2 j t) = rq (kE m p b j ⟨t / 64, by omega⟩ ⟨t % 64, by omega⟩) := by
  obtain rfl | rfl : b = 0 ∨ b = 1 := by revert b; decide
  · rw [← ldK0_apply, ← requant]
    show tile m p 0 0 (ix2 j t) = _
    unfold tile quant k0_pay1 rq
    pointwise []
    rfl
  · rw [← ldK1_apply, ← requant]
    show tile m p 0 1 (ix2 j t) = _
    unfold tile quant k0_pay5 rq
    pointwise []
    rfl

theorem tileV_apply (p : Dev nD) (b : Fin 2) (j t : Fin 256) :
    tile m p 1 b (ix2 j t) = rq (vE m p b j ⟨t / 64, by omega⟩ ⟨t % 64, by omega⟩) := by
  obtain rfl | rfl : b = 0 ∨ b = 1 := by revert b; decide
  · rw [← ldV0_apply, ← requant]
    show tile m p 1 0 (ix2 j t) = _
    unfold tile quant k0_pay4 k0_pay2 k0_pay3 rq
    pointwise []
    rfl
  · rw [← ldV1_apply, ← requant]
    show tile m p 1 1 (ix2 j t) = _
    unfold tile quant k0_pay7 k0_pay6 rq
    pointwise []
    rfl

theorem qry_apply (c : Dev nD) (b : Fin 2) (i t : Fin 256) :
    qry m c b (ix2 i t) = ∑ k : Fin 512, (xE m c b i k : EReal) * (wqE m c k t * Ideal.ofBits .bf16 0x3BA1#16) := by
  obtain rfl | rfl : b = 0 ∨ b = 1 := by revert b; decide
  · simp only [← ldWq_apply]
    show qry m c 0 (ix2 i t) = ∑ k : Fin 512, (xE m c 0 i k : EReal) * _
    simp only [← ldX0_apply]
    unfold qry w242 w234 k0_pay14 k0_pay12
    pointwise [Ideal.ofBits_zero_f32]
  · simp only [← ldWq_apply]
    show qry m c 1 (ix2 i t) = ∑ k : Fin 512, (xE m c 1 i k : EReal) * _
    simp only [← ldX1_apply]
    unfold qry w246 w234 k0_pay15 k0_pay12
    pointwise [Ideal.ofBits_zero_f32]

/-! ## One chunk -/

theorem wts_apply (mask : IVec S256x256 1) (h : Fin 4) (q k : FVec Ideal S256x256 .bf16) (i j : Fin 256) :
    wts mask h q k (ix2 i j) = if mask (ix2 i j) = 1#1 then
      Ideal.exp (∑ e : Fin 64, (q (ix2 i ⟨64 * h + e, by omega⟩) : EReal) * k (ix2 j ⟨64 * h + e, by omega⟩)) else 0 := by
  unfold wts head
  pointwise [Ideal.ofBits_zero_f32]
  rw [select_if]

theorem denPart_apply (mask : IVec S256x256 1) (h : Fin 4) (q k : FVec Ideal S256x256 .bf16) (i : Fin 256) :
    denPart mask h q k (ix2 i 0) = ∑ j : Fin 256, (wts mask h q k (ix2 i j) : EReal) := by
  unfold denPart
  pointwise [Ideal.ofBits_zero_f32]

theorem accPart_apply (mask : IVec S256x256 1) (h : Fin 4) (q k v : FVec Ideal S256x256 .bf16) (i : Fin 256) (e : Fin 64) :
    accPart mask h q k v (ix2 i e) = ∑ j : Fin 256, (wts mask h q k (ix2 i j) : EReal) * v (ix2 j ⟨64 * h + e, by omega⟩) := by
  unfold accPart head
  pointwise [Ideal.ofBits_zero_f32]

/-! ## All the chunks -/

theorem src_bij : ∀ c : Dev nD, Function.Bijective (src c) := by decide

/-- A sum over the chunks in order of arrival is the sum over the devices. -/
theorem sum_src (c : Dev nD) (f : Dev nD → EReal) : ∑ d : Fin 8, f (src c d) = ∑ p : Fin 8, f p :=
  Function.Bijective.sum_comp (src_bij c) f

theorem den_apply (c : Dev nD) (b : Fin 2) (h : Fin 4) (i : Fin 256) :
    den m c b h 7 (ix2 i 0) = ∑ p : Fin 8, ∑ j : Fin 256, (wts (w230 m c) h (qry m c b) (tile m p 0 b) (ix2 i j) : EReal) := by
  rw [← sum_src c]
  simp only [← denPart_apply, Fin.sum_univ_eight]
  rfl

theorem acc_apply (c : Dev nD) (b : Fin 2) (h : Fin 4) (i : Fin 256) (e : Fin 64) :
    acc m c b h 7 (ix2 i e) = ∑ p : Fin 8, ∑ j : Fin 256, (wts (w230 m c) h (qry m c b) (tile m p 0 b) (ix2 i j) : EReal)
      * tile m p 1 b (ix2 j ⟨64 * h + e, by omega⟩) := by
  rw [← sum_src c]
  simp only [← accPart_apply, Fin.sum_univ_eight]
  rfl

theorem ctxh_apply (c : Dev nD) (b : Fin 2) (h : Fin 4) (i : Fin 256) (e : Fin 64) :
    ctxh m c b h (ix2 i e) = Ideal.div (acc m c b h 7 (ix2 i e)) (den m c b h 7 (ix2 i 0)) := by
  unfold ctxh
  pointwise []

theorem outC_apply (c : Dev nD) (b : Fin 2) (i : Fin 256) (n : Fin 512) :
    outC m c b (ix3 0 i n) = ∑ t : Fin 256, (ctxh m c b ⟨t / 64, by omega⟩ (ix2 i ⟨t % 64, by omega⟩) : EReal)
      * (woE m c t n * Ideal.ofBits .bf16 0x3D21#16) := by
  simp only [← ldWo_apply]
  unfold outC w238 k0_pay13
  pointwise [Ideal.ofBits_zero_f32]
  refine Finset.sum_congr rfl fun t _ => congrArg (· * _) ?_
  have pick : ∀ (h : Fin 4) (e : Fin 64) (h' : Fin 4) (e' : Fin 64), h = h' → e.val = e'.val →
      ctxh m c b h (ix2 i e) = ctxh m c b h' (ix2 i e') := by
    rintro h e _ e' rfl he; rw [Fin.ext he]
  split_ifs <;> exact pick _ _ _ _ (Fin.ext (by simp; omega)) (by simp; omega)

end Cert.Attn

end
-- ==== Proof.Softmax.lean ====
/-
# A masked softmax average, two ways

Over finitely many places with real scores and values and a mask that some place is in: the exponentials summed and
divided once, against the weights taken above the greatest score and divided one by one. Both are one real number.
-/
module

public import Idealize.ShloMosaic.PureOps.Ideal

@[expose] public section

noncomputable section

namespace Cert.Attn

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type} [Fintype ι] (mask : ι → Prop) [DecidablePred mask] (S v : ι → ℝ)

/-- The denominator: the exponentials inside the mask. -/
def smDen : ℝ := ∑ j, if mask j then Real.exp (S j) else 0

/-- The numerator: the same, each times its value. -/
def smNum : ℝ := ∑ j, (if mask j then Real.exp (S j) else 0) * v j

variable {mask} {S}

theorem smDen_pos {j₀ : ι} (h : mask j₀) : 0 < smDen mask S := by
  refine Finset.sum_pos' (fun j _ => ?_) ⟨j₀, Finset.mem_univ _, ?_⟩
  · split
    · exact (Real.exp_pos _).le
    · exact le_refl _
  · rw [if_pos h]; exact Real.exp_pos _

/-- The quotient of two reals. -/
theorem div_real {a b : ℝ} (h : 0 < b) : Ideal.div (a : EReal) (b : EReal) = ((a / b : ℝ) : EReal) := by
  rw [Ideal.div_coe h.ne', ← EReal.coe_mul, mul_one_div]

/-- One division at the end. -/
theorem sm_once {j₀ : ι} (h : mask j₀) :
    Ideal.div (∑ j, (if mask j then Ideal.exp (S j : EReal) else 0) * (v j : EReal)) (∑ j, if mask j then Ideal.exp (S j : EReal) else 0)
      = ((smNum mask S v / smDen mask S : ℝ) : EReal) := by
  have e : ∀ j, (if mask j then Ideal.exp (S j : EReal) else 0) = (((if mask j then Real.exp (S j) else 0 : ℝ)) : EReal) := fun j => by
    split
    · rfl
    · rfl
  simp only [e, ← EReal.coe_mul, ← coe_sum]
  exact div_real (smDen_pos h)

/-- The greatest of the masked scores is a real. -/
theorem sm_max {j₀ : ι} (h : mask j₀) :
    ∃ M : ℝ, (Finset.univ : Finset ι).fold max (⊥ : EReal) (fun j => if mask j then (S j : EReal) else ⊥) = (M : EReal) := by
  have hlt : (Finset.univ : Finset ι).fold max (⊥ : EReal) (fun j => if mask j then (S j : EReal) else ⊥) < ⊤ := by
    rw [Finset.fold_max_lt]
    refine ⟨bot_lt_top, fun j _ => ?_⟩
    split
    · exact EReal.coe_lt_top _
    · exact bot_lt_top
  have hgt : (⊥ : EReal) < (Finset.univ : Finset ι).fold max (⊥ : EReal) (fun j => if mask j then (S j : EReal) else ⊥) := by
    rw [Finset.lt_fold_max]
    exact .inr ⟨j₀, Finset.mem_univ _, by rw [if_pos h]; exact EReal.bot_lt_coe _⟩
  exact ⟨_, (EReal.coe_toReal hlt.ne hgt.ne').symm⟩

/-- The weights above the greatest score, divided one by one; the values scaled by `s`. -/
theorem sm_shifted {j₀ : ι} (h : mask j₀) (s : ℝ) (T : ι → EReal) (hT : ∀ j, T j = if mask j then (S j : EReal) else ⊥) :
    ∑ j, ((v j : EReal) * (s : EReal)) * Ideal.div (Ideal.exp (T j - (Finset.univ : Finset ι).fold max (⊥ : EReal) T))
        (∑ x, Ideal.exp (T x - (Finset.univ : Finset ι).fold max (⊥ : EReal) T))
      = ((smNum mask S v / smDen mask S * s : ℝ) : EReal) := by
  obtain ⟨M, hM⟩ := sm_max (S := S) h
  rw [show T = fun j => if mask j then (S j : EReal) else ⊥ from funext hT, hM]
  have e : ∀ j, Ideal.exp ((if mask j then (S j : EReal) else ⊥) - (M : EReal))
      = (((if mask j then Real.exp (S j) else 0) * Real.exp (-M) : ℝ) : EReal) := fun j => by
    split
    · rw [← EReal.coe_sub, Ideal.exp_coe, sub_eq_add_neg, Real.exp_add]
    · rw [EReal.bot_sub, Ideal.exp_bot, zero_mul, EReal.coe_zero]
  have hp : 0 < smDen mask S := smDen_pos h
  have hE : 0 < Real.exp (-M) := Real.exp_pos _
  simp only [e, ← coe_sum, ← Finset.sum_mul]
  rw [show (∑ j, (if mask j then Real.exp (S j) else 0)) = smDen mask S from rfl]
  simp only [div_real (mul_pos hp hE), ← EReal.coe_mul, ← coe_sum]
  congr 1
  unfold smNum
  rw [Finset.sum_div, Finset.sum_mul]
  refine Finset.sum_congr rfl fun j _ => ?_
  field_simp

end Cert.Attn

end
-- ==== Proof.Equal.lean ====
/-
# The kernel's block against the reference's

With the input and the query weights finite, every score is a real number. The kernel's quotient for a head and the
reference's weighted sum are then the same real, up to the factor the reference puts on the values and the kernel on
the output weights.
-/
module

public import proofs.«01_k».proof.Proof.KernelValue
public import proofs.«01_k».proof.Proof.Softmax

@[expose] public section

set_option maxRecDepth 65536

noncomputable section

namespace Cert.Attn

open Idealize.ShloMosaic
open Idealize.ShloMosaic.TcCoe
open Idealize.SL.Sem
open Cert.AttnRef

local notation "SX" => Cert.ReferenceIdeal.S2x2048x512
local notation "SWq" => Cert.ReferenceIdeal.S512x256
local notation "SKV" => Cert.ReferenceIdeal.S2x2048x4x64
local notation "SWo" => Cert.ReferenceIdeal.S256x512

/-- Row `i` of device `c`'s block, in the whole array. -/
def row (c : Fin 8) (i : Fin 256) : Fin 2048 := ⟨256 * c + i, by omega⟩

/-- A sum over the devices and their rows is a sum over all the rows. -/
theorem sum_rows (f : Fin 2048 → EReal) : ∑ p : Fin 8, ∑ j : Fin 256, f (row p j) = ∑ J : Fin 2048, f J := by
  rw [← Fintype.sum_prod_type']
  refine Fintype.sum_equiv (finProdFinEquiv (m := 8) (n := 256)) _ f fun x => congrArg f (Fin.ext ?_)
  show 256 * x.1.val + x.2.val = x.2.val + 256 * x.1.val
  omega

/-! ## The real numbers involved -/

variable (X : FVec Ideal SX .bf16) (Wq : FVec Ideal SWq .bf16) (K V : FVec Ideal SKV .bf16) (Wo : FVec Ideal SWo .bf16)

/-- A query entry. -/
def qR (b : Fin 2) (I : Fin 2048) (h : Fin 4) (e : Fin 64) : ℝ :=
  ∑ k : Fin 512, (X (ix3 b I k) : EReal).toReal * (Wq (ix2 k ⟨h * 64 + e, by omega⟩) : EReal).toReal

/-- A quantised entry. -/
def zR (y : EReal) : ℝ := (rq y).toReal

theorem rq_real (y : EReal) : rq y = (zR y : EReal) := by
  obtain ⟨z, -, -, e⟩ := rq_int y
  unfold zR; rw [e, EReal.toReal_coe]

/-- A score, scaled. -/
def sR (b : Fin 2) (h : Fin 4) (I J : Fin 2048) : ℝ :=
  ∑ e : Fin 64, (qR X Wq b I h e * (161 / 32768)) * zR (K (ix4 b J h e))

/-- The places a row attends to. -/
def att (I J : Fin 2048) : Prop := I.val / 64 % 4 = J.val / 64 % 4

instance (I : Fin 2048) : DecidablePred (att I) := fun J => inferInstanceAs (Decidable (_ = _))

/-- The context entry: the average of the quantised values. -/
def cR (b : Fin 2) (h : Fin 4) (I : Fin 2048) (e : Fin 64) : ℝ :=
  smNum (att I) (sR X Wq K b h I) (fun J => zR (V (ix4 b J h e))) / smDen (att I) (sR X Wq K b h I)

variable {X Wq}

section Reference

variable (hX : ∀ b I k, (X (ix3 b I k) : EReal) = ((X (ix3 b I k) : EReal).toReal : EReal))
variable (hW : ∀ k t, (Wq (ix2 k t) : EReal) = ((Wq (ix2 k t) : EReal).toReal : EReal))

include hX hW in
theorem rQ_real (b : Fin 2) (I : Fin 2048) (h : Fin 4) (e : Fin 64) : rQ X Wq (ix4 b I h e) = (qR X Wq b I h e : EReal) := by
  rw [rQ_apply]
  unfold qR
  rw [coe_sum]
  refine Finset.sum_congr rfl fun k _ => ?_
  rw [EReal.coe_mul, ← hX, ← hW]

include hX hW in
theorem rScores_real (b : Fin 2) (h : Fin 4) (I J : Fin 2048) :
    (rScores rMask (rQ X Wq) (rQuant K) (ix4 b h I J) : EReal) = if att I J then (sR X Wq K b h I J : EReal) else ⊥ := by
  rw [rScores_apply]
  refine if_congr (rMask_apply I J) ?_ rfl
  simp only [rQ_real hX hW, rQuant_apply, rq_real, scale_down, eighth, ← EReal.coe_mul, ← coe_sum]
  congr 1
  unfold sR
  rw [Finset.sum_mul]
  refine Finset.sum_congr rfl fun e _ => ?_
  ring

include hX hW in
/-- The reference's context entry, the values' factor and all. -/
theorem ref_ctx (b : Fin 2) (h : Fin 4) (I : Fin 2048) (e : Fin 64) :
    ∑ J : Fin 2048, (rQuant V (ix4 b J h e) : EReal) * rW rKeep (rExp (rScores rMask (rQ X Wq) (rQuant K))) (ix4 b h I J)
      = ((cR X Wq K V b h I e * (161 / 4096) : ℝ) : EReal) := by
  simp only [rW_apply _ _ _ _ _ _ (rKeep_apply I), rExp_apply, rMax_apply, rQuant_apply, rq_real (V _), scale_down]
  exact sm_shifted (fun J => zR (V (ix4 b J h e))) (j₀ := I) (rfl : att I I) (161 / 4096)
    (fun J => rScores rMask (rQ X Wq) (rQuant K) (ix4 b h I J)) (rScores_real K hX hW b h I)

end Reference

section Kernel

variable (m : (ℓ : Loc Cert.KernelIdeal.nD Cert.KernelIdeal.τ Cert.KernelIdeal.sig) → Buf (Elt Ideal) ℓ)
variable (hX : ∀ b I k, (X (ix3 b I k) : EReal) = ((X (ix3 b I k) : EReal).toReal : EReal))
variable (hW : ∀ k t, (Wq (ix2 k t) : EReal) = ((Wq (ix2 k t) : EReal).toReal : EReal))
variable (hx : ∀ c b i k, xE m c b i k = X (ix3 b (row c i) k)) (hwq : ∀ c k t, wqE m c k t = Wq (ix2 k t))
variable (hk : ∀ c b j h e, kE m c b j h e = K (ix4 b (row c j) h e))
variable (hv : ∀ c b j h e, vE m c b j h e = V (ix4 b (row c j) h e))
variable (hwo : ∀ c t n, woE m c t n = Wo (ix2 t n))

include hX hW hx hwq in
theorem qry_real (c : Fin 8) (b : Fin 2) (i : Fin 256) (h : Fin 4) (e : Fin 64) (ht) :
    (qry m c b (ix2 i ⟨64 * h + e, ht⟩) : EReal) = ((qR X Wq b (row c i) h e * (161 / 32768) : ℝ) : EReal) := by
  rw [qry_apply]
  have ei : (⟨64 * h + e, ht⟩ : Fin 256) = ⟨h * 64 + e, by omega⟩ := Fin.ext (by simp; omega)
  unfold qR
  rw [Finset.sum_mul, coe_sum, ei]
  refine Finset.sum_congr rfl fun k _ => ?_
  rw [hx, hwq, scale_wq, EReal.coe_mul, EReal.coe_mul, ← hX, ← hW, mul_assoc]

include hk in
theorem tileK_real (p : Fin 8) (b : Fin 2) (j : Fin 256) (h : Fin 4) (e : Fin 64) (ht) :
    (tile m p 0 b (ix2 j ⟨64 * h + e, ht⟩) : EReal) = (zR (K (ix4 b (row p j) h e)) : EReal) := by
  rw [tileK_apply, hk, rq_real]
  have e₁ : (⟨(64 * h + e) / 64, by omega⟩ : Fin 4) = h := Fin.ext (by simp; omega)
  have e₂ : (⟨(64 * h + e) % 64, by omega⟩ : Fin 64) = e := Fin.ext (by simp)
  simp only [e₁, e₂]

include hv in
theorem tileV_real (p : Fin 8) (b : Fin 2) (j : Fin 256) (h : Fin 4) (e : Fin 64) (ht) :
    (tile m p 1 b (ix2 j ⟨64 * h + e, ht⟩) : EReal) = (zR (V (ix4 b (row p j) h e)) : EReal) := by
  rw [tileV_apply, hv, rq_real]
  have e₁ : (⟨(64 * h + e) / 64, by omega⟩ : Fin 4) = h := Fin.ext (by simp; omega)
  have e₂ : (⟨(64 * h + e) % 64, by omega⟩ : Fin 64) = e := Fin.ext (by simp)
  simp only [e₁, e₂]

theorem att_row (c p : Fin 8) (i j : Fin 256) : att (row c i) (row p j) ↔ i.val / 64 = j.val / 64 := by
  unfold att row
  dsimp only
  omega

include hX hW hx hwq hk in
theorem wts_real (c p : Fin 8) (b : Fin 2) (h : Fin 4) (i j : Fin 256) :
    (wts (w230 m c) h (qry m c b) (tile m p 0 b) (ix2 i j) : EReal)
      = if att (row c i) (row p j) then Ideal.exp (sR X Wq K b h (row c i) (row p j) : EReal) else 0 := by
  rw [wts_apply]
  refine if_congr ((mask_apply m c i j).trans (att_row c p i j).symm) ?_ rfl
  simp only [qry_real m hX hW hx hwq, tileK_real K m hk, ← EReal.coe_mul, ← coe_sum]
  rfl

include hX hW hx hwq hk hv in
/-- The kernel's context entry. -/
theorem ker_ctx (c : Fin 8) (b : Fin 2) (h : Fin 4) (i : Fin 256) (e : Fin 64) :
    (ctxh m c b h (ix2 i e) : EReal) = (cR X Wq K V b h (row c i) e : EReal) := by
  rw [ctxh_apply, den_apply, acc_apply]
  simp only [wts_real K m hX hW hx hwq hk, tileV_real V m hv]
  rw [sum_rows (fun J => if att (row c i) J then Ideal.exp (sR X Wq K b h (row c i) J : EReal) else 0),
    sum_rows (fun J => (if att (row c i) J then Ideal.exp (sR X Wq K b h (row c i) J : EReal) else 0) * (zR (V (ix4 b J h e)) : EReal))]
  exact sm_once (fun J => zR (V (ix4 b J h e))) (j₀ := row c i) (rfl : att (row c i) (row c i))

include hX hW hx hwq hk hv hwo in
/-- The kernel's block is the reference's rows. -/
theorem out_equal (c : Fin 8) (b : Fin 2) (i : Fin 256) (n : Fin 512) :
    (outC m c b (ix3 0 i n) : EReal) = refOut X Wq K V Wo (ix3 b (row c i) n) := by
  unfold refOut
  rw [outC_apply, rOut_apply]
  refine Finset.sum_congr rfl fun t _ => ?_
  rw [ker_ctx K V m hX hW hx hwq hk hv, ref_ctx K V hX hW, hwo, scale_down, EReal.coe_mul, mul_assoc]
  exact congrArg _ (mul_comm _ _)

end Kernel

end Cert.Attn

end
-- ==== Proof.Value.lean ====
/-
# The two results

The precondition makes the input and the query weights real. The devices' arguments are blocks of the reference's, and
so is the result.
-/
module

public import proofs.«01_k».proof.Defs
public import proofs.«01_k».proof.Proof.Gen.Pre_finite_xw_KernelIdeal
public import proofs.«01_k».proof.Proof.Equal
public import proofs.«01_k».proof.Proof.Frames
public import Idealize.ShloMosaic.Lib.ReduceAll

@[expose] public section

set_option maxRecDepth 65536

noncomputable section

namespace Cert.Attn

open Idealize.ShloMosaic
open Idealize.ShloMosaic.TcCoe
open Idealize.SL.Sem
open Cert.AttnRef

/-! ## The precondition -/

theorem pos_inf : Ideal.ofBits .bf16 0x7F80#16 = ⊤ := by simp [Ideal.ofBits, Ideal.ieee]

/-- What lies below infinity in absolute value is a real. -/
theorem real_of_lt (x : EReal) (h : Ideal.cmp .olt (max x (-x)) ⊤ = 1#1) : x = (x.toReal : EReal) := by
  have hlt : max x (-x) < ⊤ := by
    by_contra hn
    simp [Ideal.cmp, hn] at h
  refine (EReal.coe_toReal (fun e => ?_) (fun e => ?_)).symm
  · rw [e] at hlt; simp at hlt
  · rw [e] at hlt; simp at hlt

instance : Subsingleton Cert.Pre_finite_xw_KernelIdeal.S_.Idx := ⟨fun a b => funext fun x => x.elim0⟩

theorem finite_args {X : FVec Ideal Cert.Pre_finite_xw_KernelIdeal.S2x256x512 .bf16} {Wq : FVec Ideal Cert.Pre_finite_xw_KernelIdeal.S512x256 .bf16} {K V Wo}
    (h : letI := Cert.Pre_finite_xw_KernelIdeal.Gen.facts; Cert.Pre_finite_xw_KernelIdeal.fn (F := Ideal) X Wq K V Wo = fun _ => 1#1) :
    (∀ i, (X i : EReal) = ((X i : EReal).toReal : EReal)) ∧ ∀ i, (Wq i : EReal) = ((Wq i : EReal).toReal : EReal) := by
  have h0 := congrFun h ix0
  unfold Cert.Pre_finite_xw_KernelIdeal.fn at h0
  obtain ⟨h1, h2⟩ := IntOp.andi_eq_one.1 h0
  refine ⟨fun i => real_of_lt _ ?_, fun i => real_of_lt _ ?_⟩
  · have := Host.reduce_andi_all _ _ _ _ _ h1 i
    rw [← pos_inf]
    exact this
  · have := Host.reduce_andi_all _ _ _ _ _ h2 i
    rw [← pos_inf]
    exact this

/-! ## Blocks of whole arrays -/

theorem block3 {α : Type} (v : (⟨3, ![2, 2048, 512]⟩ : Shape).Idx → α) (c : Fin 8) (b : Fin 2) (i : Fin 256) (k : Fin 512) :
    Layout.block ⟨3, ![2, 256, 512]⟩ ⟨3, ![2, 2048, 512]⟩ 1 8 c v (by decide) (ix3 b i k) = v (ix3 b (row c i) k) := by
  rw [Layout.block_apply]
  refine congrArg v (funext fun a => Fin.ext ?_)
  fin_cases a
  · rfl
  · exact congrArg (· + i.val) (Nat.mul_comm _ _)
  · rfl

theorem block4 {α : Type} (v : (⟨4, ![2, 2048, 4, 64]⟩ : Shape).Idx → α) (c : Fin 8) (b : Fin 2) (i : Fin 256) (h : Fin 4) (e : Fin 64) :
    Layout.block ⟨4, ![2, 256, 4, 64]⟩ ⟨4, ![2, 2048, 4, 64]⟩ 1 8 c v (by decide) (ix4 b i h e) = v (ix4 b (row c i) h e) := by
  rw [Layout.block_apply]
  refine congrArg v (funext fun a => Fin.ext ?_)
  fin_cases a
  · rfl
  · exact congrArg (· + i.val) (Nat.mul_comm _ _)
  · rfl
  · rfl

theorem row_div_mod (I : Fin 2048) : row ⟨I / 256, by omega⟩ ⟨I % 256, by omega⟩ = I :=
  Fin.ext (by unfold row; dsimp only; omega)

/-! ## The result -/

section

open Cert.KernelIdeal

variable (m : (ℓ : Loc nD τ sig) → Buf (Elt Ideal) ℓ)

theorem outF_apply (c : Dev nD) (b : Fin 2) (i : Fin 256) (n : Fin 512) :
    outF m c (ix3 b i n : S2x256x512.Idx) = outC m c b (ix3 0 i n) := by
  have e : oIdx (ix3 b i n : S2x256x512.Idx) = ix3 0 i n := by
    funext a; fin_cases a <;> rfl
  unfold outF
  rw [e, outA_eq, outB_eq]
  obtain rfl | rfl : b = 0 ∨ b = 1 := by clear e; revert b; decide
  · rfl
  · rfl

end

/-- The kernel over the extended reals computes its block of the reference. -/
theorem algebraic : Cert.algebraic_KernelIdeal_ReferenceIdeal_pre_finite_xw_KernelIdeal := by
  intro m g m' g' hpre hblk
  have hX : ∀ c b i k, xE m c b i k = m' (((0 : Dev Cert.ReferenceIdeal.nD).tc : Thread Cert.ReferenceIdeal.nD Cert.ReferenceIdeal.τ).loc Cert.ReferenceIdeal.main_arg0) (ix3 b (row c i) k) :=
    fun c b i k => (congrFun (hblk c).1 (ix3 b i k)).trans (block3 _ c b i k)
  have hW : ∀ c k t, wqE m c k t = m' (((0 : Dev Cert.ReferenceIdeal.nD).tc : Thread Cert.ReferenceIdeal.nD Cert.ReferenceIdeal.τ).loc Cert.ReferenceIdeal.main_arg1) (ix2 k t) :=
    fun c k t => congrFun (hblk c).2.1 (ix2 k t)
  have hK : ∀ c b j h e, kE m c b j h e = m' (((0 : Dev Cert.ReferenceIdeal.nD).tc : Thread Cert.ReferenceIdeal.nD Cert.ReferenceIdeal.τ).loc Cert.ReferenceIdeal.main_arg2) (ix4 b (row c j) h e) :=
    fun c b j h e => (congrFun (hblk c).2.2.1 (ix4 b j h e)).trans (block4 _ c b j h e)
  have hV : ∀ c b j h e, vE m c b j h e = m' (((0 : Dev Cert.ReferenceIdeal.nD).tc : Thread Cert.ReferenceIdeal.nD Cert.ReferenceIdeal.τ).loc Cert.ReferenceIdeal.main_arg3) (ix4 b (row c j) h e) :=
    fun c b j h e => (congrFun (hblk c).2.2.2.1 (ix4 b j h e)).trans (block4 _ c b j h e)
  have hO : ∀ c t n, woE m c t n = m' (((0 : Dev Cert.ReferenceIdeal.nD).tc : Thread Cert.ReferenceIdeal.nD Cert.ReferenceIdeal.τ).loc Cert.ReferenceIdeal.main_arg4) (ix2 t n) :=
    fun c t n => congrFun (hblk c).2.2.2.2 (ix2 t n)
  have fX : ∀ b I k, (m' (((0 : Dev Cert.ReferenceIdeal.nD).tc : Thread Cert.ReferenceIdeal.nD Cert.ReferenceIdeal.τ).loc Cert.ReferenceIdeal.main_arg0) (ix3 b I k) : EReal)
      = ((m' (((0 : Dev Cert.ReferenceIdeal.nD).tc : Thread Cert.ReferenceIdeal.nD Cert.ReferenceIdeal.τ).loc Cert.ReferenceIdeal.main_arg0) (ix3 b I k) : EReal).toReal : EReal) := fun b I k => by
    rw [← row_div_mod I, ← hX]
    exact (finite_args (hpre _)).1 _
  have fW : ∀ k t, (m' (((0 : Dev Cert.ReferenceIdeal.nD).tc : Thread Cert.ReferenceIdeal.nD Cert.ReferenceIdeal.τ).loc Cert.ReferenceIdeal.main_arg1) (ix2 k t) : EReal)
      = ((m' (((0 : Dev Cert.ReferenceIdeal.nD).tc : Thread Cert.ReferenceIdeal.nD Cert.ReferenceIdeal.τ).loc Cert.ReferenceIdeal.main_arg1) (ix2 k t) : EReal).toReal : EReal) := fun k t => by
    rw [← hW 0]
    exact (finite_args (hpre 0)).2 _
  refine ⟨Cert.ReferenceIdeal.Value.res_main_v56 m' 0, ?_, ?_⟩
  · refine (θ_run Cert.KernelIdeal.defs _ _).mono (fun r h c => ⟨?_, (h.1 c).2⟩) (run_values m g)
    rw [(h.1 c).1, final_out, res_eq]
    funext j
    obtain ⟨b, i, n, rfl⟩ : ∃ (b : Fin 2) (i : Fin 256) (n : Fin 512), j = (ix3 b i n : Cert.KernelIdeal.S2x256x512.Idx) :=
      ⟨j 0, j 1, j 2, by funext a; fin_cases a <;> rfl⟩
    exact (outF_apply m c b i n).trans ((out_equal _ _ _ m fX fW hX hW hK hV hO c b i n).trans (block3 _ c b i n).symm)
  · exact (θ_run Cert.ReferenceIdeal.defs _ _).mono (fun r h => h 0) (Cert.ReferenceIdeal.Value.run m' g')

end Cert.Attn

end
-- ==== Proof.lean ====
/-
Assembles the claims: each program's run ends with its arguments unchanged and every counter at zero, and over the
extended reals the kernel's devices end holding their blocks of what the reference computes.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_xw_KernelIdeal
public import proofs.«01_k».proof.Proof.Gen.Pre_finite_xw_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The kernel and the ideal kernel are one text: they run the same body at the same label. -/
theorem bodies_eq : Cert.Kernel.defs₀ (F := Bits) = Cert.KernelIdeal.defs₀ (F := Bits) := by
  refine congrArg Defs.onTc (funext fun l => funext fun x => ?_)
  match l, x with
  | 0, (t, s) => rfl

/-- So their tables of bodies are the same. -/
theorem defs_eq : Cert.Kernel.defs (F := Bits) = Cert.KernelIdeal.defs (F := Bits) :=
  congrArg (Pipeline.defs _) bodies_eq

/-- The kernel at words: the run over any float values, its values dropped. -/
theorem frame_kernel : Cert.quiescent_Kernel := fun m ρ _ => by
  rw [defs_eq]
  exact Cert.Attn.run_frame (F := Bits) m ρ

/-- The kernel over the extended reals. -/
theorem frame_kernelIdeal : Cert.quiescent_KernelIdeal := fun m ρ _ => Cert.Attn.run_frame m ρ

/-- The reference has no counters and writes no argument. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.Pre_finite_xw_KernelIdeal.Gen.facts, Cert.Pre_finite_xw_ReferenceIdeal.Gen.facts,
  frame_kernel, frame_kernelIdeal, fun m ρ _ => Cert.Attn.run_frame m ρ,
  frame_reference, fun m ρ _ => frame_reference m ρ (by trivial), trivial, Cert.Attn.algebraic⟩

end Cert.Proof

end
